-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 2048]⟩ ⟨2, ![512, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x2048 : Shape := ⟨2, ![512, 2048]⟩
abbrev S64x2048 : Shape := ⟨2, ![64, 2048]⟩
abbrev S8x64x2048 : Shape := ⟨3, ![8, 64, 2048]⟩
abbrev S3x64x768 : Shape := ⟨3, ![3, 64, 768]⟩
abbrev S8 : Shape := ⟨1, ![8]⟩
abbrev S3 : Shape := ⟨1, ![3]⟩
abbrev S_ : Shape := ⟨0, ![]⟩
abbrev S512x256 : Shape := ⟨2, ![512, 256]⟩
abbrev S256x2048 : Shape := ⟨2, ![256, 2048]⟩
abbrev S4x64x2048 : Shape := ⟨3, ![4, 64, 2048]⟩
abbrev S1 : Shape := ⟨1, ![1]⟩
abbrev S1x64x768 : Shape := ⟨3, ![1, 64, 768]⟩
abbrev S64x768 : Shape := ⟨2, ![64, 768]⟩
abbrev S1x64x512 : Shape := ⟨3, ![1, 64, 512]⟩
abbrev S64x512 : Shape := ⟨2, ![64, 512]⟩
abbrev S1x64x2048 : Shape := ⟨3, ![1, 64, 2048]⟩

abbrev nBuf : Space → Nat
  | .hbm => 3
  | .vmem => 6
  | .smem => 0
  | _ => 0

abbrev bufTy : (tb : Table) → Fin (tcTables nBuf tb) → BufTy
  | .hbm, ⟨0, _⟩ => ⟨S512x512, .bf16⟩
  | .hbm, ⟨1, _⟩ => ⟨S512x2048, .bf16⟩
  | .hbm, ⟨2, _⟩ => ⟨S64x2048, .f32⟩
  | .local _ .vmem, ⟨0, _⟩ => ⟨S512x512, .bf16⟩
  | .local _ .vmem, ⟨1, _⟩ => ⟨S512x2048, .bf16⟩
  | .local _ .vmem, ⟨2, _⟩ => ⟨S64x2048, .f32⟩
  | .local _ .vmem, ⟨3, _⟩ => ⟨S8x64x2048, .bf16⟩
  | .local _ .vmem, ⟨4, _⟩ => ⟨S8x64x2048, .bf16⟩
  | .local _ .vmem, ⟨5, _⟩ => ⟨S3x64x768, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v11 : BitVec 32 := Scalar.shrsi v2 c1_i32_4
  let c1_i32_5 : BitVec 32 := 1#32
  let v12 : BitVec 32 := Scalar.andi v11 c1_i32_5
  let v13 : BitVec 32 := Scalar.xori v2 v12
  let c1_i32_6 : BitVec 32 := 1#32
  let v14 : BitVec 32 := Scalar.xori v13 c1_i32_6
  let c1_i32_7 : BitVec 32 := 1#32
  let v15 : BitVec 32 := Scalar.shrsi v14 c1_i32_7
  let c1_i32_8 : BitVec 32 := 1#32
  let v16 : BitVec 32 := Scalar.andi v15 c1_i32_8
  let v17 : BitVec 32 := Scalar.xori v14 v16
  let c1_i32_10 : BitVec 32 := 1#32
  let v18 : BitVec 32 := Scalar.muli v17 c1_i32_10
  let v19 : BitVec 32 := Scalar.addi c0_i32 v18
  v19.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v20 : BitVec 32 := Scalar.shrsi v2 c1_i32_11
  let c1_i32_12 : BitVec 32 := 1#32
  let v21 : BitVec 32 := Scalar.andi v20 c1_i32_12
  let v22 : BitVec 32 := Scalar.xori v2 v21
  let c2_i32 : BitVec 32 := 2#32
  let v23 : BitVec 32 := Scalar.xori v22 c2_i32
  let c1_i32_13 : BitVec 32 := 1#32
  let v24 : BitVec 32 := Scalar.shrsi v23 c1_i32_13
  let c1_i32_14 : BitVec 32 := 1#32
  let v25 : BitVec 32 := Scalar.andi v24 c1_i32_14
  let v26 : BitVec 32 := Scalar.xori v23 v25
  let c1_i32_16 : BitVec 32 := 1#32
  let v27 : BitVec 32 := Scalar.muli v26 c1_i32_16
  let v28 : BitVec 32 := Scalar.addi c0_i32_17 v27
  v28.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_18 : BitVec 32 := 1#32
  let v29 : BitVec 32 := Scalar.shrsi v2 c1_i32_18
  let c1_i32_19 : BitVec 32 := 1#32
  let v30 : BitVec 32 := Scalar.andi v29 c1_i32_19
  let v31 : BitVec 32 := Scalar.xori v2 v30
  let c3_i32 : BitVec 32 := 3#32
  let v32 : BitVec 32 := Scalar.xori v31 c3_i32
  let c1_i32_20 : BitVec 32 := 1#32
  let v33 : BitVec 32 := Scalar.shrsi v32 c1_i32_20
  let c1_i32_21 : BitVec 32 := 1#32
  let v34 : BitVec 32 := Scalar.andi v33 c1_i32_21
  let v35 : BitVec 32 := Scalar.xori v32 v34
  let c1_i32_23 : BitVec 32 := 1#32
  let v36 : BitVec 32 := Scalar.muli v35 c1_i32_23
  let v37 : BitVec 32 := Scalar.addi c0_i32_24 v36
  v37.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_25 : BitVec 32 := 1#32
  let v38 : BitVec 32 := Scalar.shrsi v2 c1_i32_25
  let c1_i32_26 : BitVec 32 := 1#32
  let v39 : BitVec 32 := Scalar.andi v38 c1_i32_26
  let v40 : BitVec 32 := Scalar.xori v2 v39
  let c4_i32 : BitVec 32 := 4#32
  let v41 : BitVec 32 := Scalar.xori v40 c4_i32
  let c1_i32_27 : BitVec 32 := 1#32
  let v42 : BitVec 32 := Scalar.shrsi v41 c1_i32_27
  let c1_i32_28 : BitVec 32 := 1#32
  let v43 : BitVec 32 := Scalar.andi v42 c1_i32_28
  let v44 : BitVec 32 := Scalar.xori v41 v43
  let c1_i32_30 : BitVec 32 := 1#32
  let v45 : BitVec 32 := Scalar.muli v44 c1_i32_30
  let v46 : BitVec 32 := Scalar.addi c0_i32_31 v45
  v46.toNat
def k0_dev5 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v47 : BitVec 32 := Scalar.shrsi v2 c1_i32_32
  let c1_i32_33 : BitVec 32 := 1#32
  let v48 : BitVec 32 := Scalar.andi v47 c1_i32_33
  let v49 : BitVec 32 := Scalar.xori v2 v48
  let c5_i32 : BitVec 32 := 5#32
  let v50 : BitVec 32 := Scalar.xori v49 c5_i32
  let c1_i32_34 : BitVec 32 := 1#32
  let v51 : BitVec 32 := Scalar.shrsi v50 c1_i32_34
  let c1_i32_35 : BitVec 32 := 1#32
  let v52 : BitVec 32 := Scalar.andi v51 c1_i32_35
  let v53 : BitVec 32 := Scalar.xori v50 v52
  let c1_i32_37 : BitVec 32 := 1#32
  let v54 : BitVec 32 := Scalar.muli v53 c1_i32_37
  let v55 : BitVec 32 := Scalar.addi c0_i32_38 v54
  v55.toNat
def k0_dev6 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_39 : BitVec 32 := 1#32
  let v56 : BitVec 32 := Scalar.shrsi v2 c1_i32_39
  let c1_i32_40 : BitVec 32 := 1#32
  let v57 : BitVec 32 := Scalar.andi v56 c1_i32_40
  let v58 : BitVec 32 := Scalar.xori v2 v57
  let c6_i32 : BitVec 32 := 6#32
  let v59 : BitVec 32 := Scalar.xori v58 c6_i32
  let c1_i32_41 : BitVec 32 := 1#32
  let v60 : BitVec 32 := Scalar.shrsi v59 c1_i32_41
  let c1_i32_42 : BitVec 32 := 1#32
  let v61 : BitVec 32 := Scalar.andi v60 c1_i32_42
  let v62 : BitVec 32 := Scalar.xori v59 v61
  let c1_i32_44 : BitVec 32 := 1#32
  let v63 : BitVec 32 := Scalar.muli v62 c1_i32_44
  let v64 : BitVec 32 := Scalar.addi c0_i32_45 v63
  v64.toNat
def k0_dev7 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_46 : BitVec 32 := 1#32
  let v65 : BitVec 32 := Scalar.shrsi v2 c1_i32_46
  let c1_i32_47 : BitVec 32 := 1#32
  let v66 : BitVec 32 := Scalar.andi v65 c1_i32_47
  let v67 : BitVec 32 := Scalar.xori v2 v66
  let c7_i32_48 : BitVec 32 := 7#32
  let v68 : BitVec 32 := Scalar.xori v67 c7_i32_48
  let c1_i32_49 : BitVec 32 := 1#32
  let v69 : BitVec 32 := Scalar.shrsi v68 c1_i32_49
  let c1_i32_50 : BitVec 32 := 1#32
  let v70 : BitVec 32 := Scalar.andi v69 c1_i32_50
  let v71 : BitVec 32 := Scalar.xori v68 v70
  let c1_i32_52 : BitVec 32 := 1#32
  let v72 : BitVec 32 := Scalar.muli v71 c1_i32_52
  let v73 : BitVec 32 := Scalar.addi c0_i32_53 v72
  v73.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c7_i32 : BitVec 32 := 7#32
  let v6 : BitVec 32 := Scalar.xori v5 c7_i32
  let c1_i32_2 : BitVec 32 := 1#32
  let v7 : BitVec 32 := Scalar.shrsi v6 c1_i32_2
  let c1_i32_3 : BitVec 32 := 1#32
  let v8 : BitVec 32 := Scalar.andi v7 c1_i32_3
  let v9 : BitVec 32 := Scalar.xori v6 v8
  let c0_i32_66 : BitVec 32 := 0#32
  let v92 : BitVec 1 := Scalar.cmpi .sge v9 c0_i32_66
  let c4_i32_67 : BitVec 32 := 4#32
  let v93 : BitVec 1 := Scalar.cmpi .slt v9 c4_i32_67
  let v94 : BitVec 1 := Scalar.andi v92 v93
  let v95 : BitVec 32 := Scalar.extui v94
  let c0_i32_71 : BitVec 32 := 0#32
  let v96 : BitVec 1 := Scalar.cmpi .ne v95 c0_i32_71
  v96

def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c7_i32 : BitVec 32 := 7#32
  let v6 : BitVec 32 := Scalar.xori v5 c7_i32
  let c1_i32_2 : BitVec 32 := 1#32
  let v7 : BitVec 32 := Scalar.shrsi v6 c1_i32_2
  let c1_i32_3 : BitVec 32 := 1#32
  let v8 : BitVec 32 := Scalar.andi v7 c1_i32_3
  let v9 : BitVec 32 := Scalar.xori v6 v8
  let c0_i32_408 : BitVec 32 := 0#32
  let c0_i32_409 : BitVec 32 := 0#32
  ![v9.toNat, 0, 0]
def k0_dev8 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_61 : BitVec 32 := 1#32
  let v85 : BitVec 32 := Scalar.shrsi v2 c1_i32_61
  let c1_i32_62 : BitVec 32 := 1#32
  let v86 : BitVec 32 := Scalar.andi v85 c1_i32_62
  let v87 : BitVec 32 := Scalar.xori v2 v86
  let c1_i32_63 : BitVec 32 := 1#32
  let v88 : BitVec 32 := Scalar.xori v87 c1_i32_63
  let c1_i32_64 : BitVec 32 := 1#32
  let v89 : BitVec 32 := Scalar.shrsi v88 c1_i32_64
  let c1_i32_65 : BitVec 32 := 1#32
  let v90 : BitVec 32 := Scalar.andi v89 c1_i32_65
  let v91 : BitVec 32 := Scalar.xori v88 v90
  let c1_i32_404 : BitVec 32 := 1#32
  let v515 : BitVec 32 := Scalar.muli v91 c1_i32_404
  let v516 : BitVec 32 := Scalar.addi c0_i32_405 v515
  v516.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c7_i32 : BitVec 32 := 7#32
  let v6 : BitVec 32 := Scalar.xori v5 c7_i32
  let c1_i32_2 : BitVec 32 := 1#32
  let v7 : BitVec 32 := Scalar.shrsi v6 c1_i32_2
  let c1_i32_3 : BitVec 32 := 1#32
  let v8 : BitVec 32 := Scalar.andi v7 c1_i32_3
  let v9 : BitVec 32 := Scalar.xori v6 v8
  let c0_i32_77 : BitVec 32 := 0#32
  let v104 : BitVec 1 := Scalar.cmpi .sge v9 c0_i32_77
  let c4_i32_78 : BitVec 32 := 4#32
  let v105 : BitVec 1 := Scalar.cmpi .slt v9 c4_i32_78
  let v106 : BitVec 1 := Scalar.andi v104 v105
  let v107 : BitVec 32 := Scalar.extui v106
  let c0_i32_82 : BitVec 32 := 0#32
  let v108 : BitVec 1 := Scalar.cmpi .ne v107 c0_i32_82
  v108

def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c7_i32 : BitVec 32 := 7#32
  let v6 : BitVec 32 := Scalar.xori v5 c7_i32
  let c1_i32_2 : BitVec 32 := 1#32
  let v7 : BitVec 32 := Scalar.shrsi v6 c1_i32_2
  let c1_i32_3 : BitVec 32 := 1#32
  let v8 : BitVec 32 := Scalar.andi v7 c1_i32_3
  let v9 : BitVec 32 := Scalar.xori v6 v8
  let c0_i32_408 : BitVec 32 := 0#32
  let c768_i32_409 : BitVec 32 := 768#32
  ![v9.toNat, 0, 768]
def k0_dev9 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_72 : BitVec 32 := 1#32
  let v97 : BitVec 32 := Scalar.shrsi v2 c1_i32_72
  let c1_i32_73 : BitVec 32 := 1#32
  let v98 : BitVec 32 := Scalar.andi v97 c1_i32_73
  let v99 : BitVec 32 := Scalar.xori v2 v98
  let c2_i32_74 : BitVec 32 := 2#32
  let v100 : BitVec 32 := Scalar.xori v99 c2_i32_74
  let c1_i32_75 : BitVec 32 := 1#32
  let v101 : BitVec 32 := Scalar.shrsi v100 c1_i32_75
  let c1_i32_76 : BitVec 32 := 1#32
  let v102 : BitVec 32 := Scalar.andi v101 c1_i32_76
  let v103 : BitVec 32 := Scalar.xori v100 v102
  let c1_i32_404 : BitVec 32 := 1#32
  let v515 : BitVec 32 := Scalar.muli v103 c1_i32_404
  let v516 : BitVec 32 := Scalar.addi c0_i32_405 v515
  v516.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c7_i32 : BitVec 32 := 7#32
  let v6 : BitVec 32 := Scalar.xori v5 c7_i32
  let c1_i32_2 : BitVec 32 := 1#32
  let v7 : BitVec 32 := Scalar.shrsi v6 c1_i32_2
  let c1_i32_3 : BitVec 32 := 1#32
  let v8 : BitVec 32 := Scalar.andi v7 c1_i32_3
  let v9 : BitVec 32 := Scalar.xori v6 v8
  let c0_i32_88 : BitVec 32 := 0#32
  let v116 : BitVec 1 := Scalar.cmpi .sge v9 c0_i32_88
  let c4_i32_89 : BitVec 32 := 4#32
  let v117 : BitVec 1 := Scalar.cmpi .slt v9 c4_i32_89
  let v118 : BitVec 1 := Scalar.andi v116 v117
  let v119 : BitVec 32 := Scalar.extui v118
  let c0_i32_93 : BitVec 32 := 0#32
  let v120 : BitVec 1 := Scalar.cmpi .ne v119 c0_i32_93
  v120

def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c7_i32 : BitVec 32 := 7#32
  let v6 : BitVec 32 := Scalar.xori v5 c7_i32
  let c1_i32_2 : BitVec 32 := 1#32
  let v7 : BitVec 32 := Scalar.shrsi v6 c1_i32_2
  let c1_i32_3 : BitVec 32 := 1#32
  let v8 : BitVec 32 := Scalar.andi v7 c1_i32_3
  let v9 : BitVec 32 := Scalar.xori v6 v8
  let c0_i32_408 : BitVec 32 := 0#32
  let c1536_i32_409 : BitVec 32 := 1536#32
  ![v9.toNat, 0, 1536]
def k0_dev10 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_83 : BitVec 32 := 1#32
  let v109 : BitVec 32 := Scalar.shrsi v2 c1_i32_83
  let c1_i32_84 : BitVec 32 := 1#32
  let v110 : BitVec 32 := Scalar.andi v109 c1_i32_84
  let v111 : BitVec 32 := Scalar.xori v2 v110
  let c4_i32_85 : BitVec 32 := 4#32
  let v112 : BitVec 32 := Scalar.xori v111 c4_i32_85
  let c1_i32_86 : BitVec 32 := 1#32
  let v113 : BitVec 32 := Scalar.shrsi v112 c1_i32_86
  let c1_i32_87 : BitVec 32 := 1#32
  let v114 : BitVec 32 := Scalar.andi v113 c1_i32_87
  let v115 : BitVec 32 := Scalar.xori v112 v114
  let c1_i32_404 : BitVec 32 := 1#32
  let v515 : BitVec 32 := Scalar.muli v115 c1_i32_404
  let v516 : BitVec 32 := Scalar.addi c0_i32_405 v515
  v516.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_94 : BitVec 32 := 1#32
  let v121 : BitVec 32 := Scalar.shrsi v2 c1_i32_94
  let c1_i32_95 : BitVec 32 := 1#32
  let v122 : BitVec 32 := Scalar.andi v121 c1_i32_95
  let v123 : BitVec 32 := Scalar.xori v2 v122
  let c1_i32_96 : BitVec 32 := 1#32
  let v124 : BitVec 32 := Scalar.xori v123 c1_i32_96
  let c1_i32_97 : BitVec 32 := 1#32
  let v125 : BitVec 32 := Scalar.shrsi v124 c1_i32_97
  let c1_i32_98 : BitVec 32 := 1#32
  let v126 : BitVec 32 := Scalar.andi v125 c1_i32_98
  let v127 : BitVec 32 := Scalar.xori v124 v126
  let c0_i32_99 : BitVec 32 := 0#32
  let v128 : BitVec 1 := Scalar.cmpi .sge v127 c0_i32_99
  let c4_i32_100 : BitVec 32 := 4#32
  let v129 : BitVec 1 := Scalar.cmpi .slt v127 c4_i32_100
  let v130 : BitVec 1 := Scalar.andi v128 v129
  let v131 : BitVec 32 := Scalar.extui v130
  let c0_i32_101 : BitVec 32 := 0#32
  let v132 : BitVec 1 := Scalar.cmpi .ne v131 c0_i32_101
  v132

def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_94 : BitVec 32 := 1#32
  let v121 : BitVec 32 := Scalar.shrsi v2 c1_i32_94
  let c1_i32_95 : BitVec 32 := 1#32
  let v122 : BitVec 32 := Scalar.andi v121 c1_i32_95
  let v123 : BitVec 32 := Scalar.xori v2 v122
  let c1_i32_96 : BitVec 32 := 1#32
  let v124 : BitVec 32 := Scalar.xori v123 c1_i32_96
  let c1_i32_97 : BitVec 32 := 1#32
  let v125 : BitVec 32 := Scalar.shrsi v124 c1_i32_97
  let c1_i32_98 : BitVec 32 := 1#32
  let v126 : BitVec 32 := Scalar.andi v125 c1_i32_98
  let v127 : BitVec 32 := Scalar.xori v124 v126
  ![v127.toNat]
def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_406 : BitVec 32 := 0#32
  let c0_i32_407 : BitVec 32 := 0#32
  ![v2.toNat, 0, 0]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_94 : BitVec 32 := 1#32
  let v121 : BitVec 32 := Scalar.shrsi v2 c1_i32_94
  let c1_i32_95 : BitVec 32 := 1#32
  let v122 : BitVec 32 := Scalar.andi v121 c1_i32_95
  let v123 : BitVec 32 := Scalar.xori v2 v122
  let c1_i32_96 : BitVec 32 := 1#32
  let v124 : BitVec 32 := Scalar.xori v123 c1_i32_96
  let c1_i32_97 : BitVec 32 := 1#32
  let v125 : BitVec 32 := Scalar.shrsi v124 c1_i32_97
  let c1_i32_98 : BitVec 32 := 1#32
  let v126 : BitVec 32 := Scalar.andi v125 c1_i32_98
  let v127 : BitVec 32 := Scalar.xori v124 v126
  let c0_i32_408 : BitVec 32 := 0#32
  let c0_i32_409 : BitVec 32 := 0#32
  ![v127.toNat, 0, 0]
def k0_dev11 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_94 : BitVec 32 := 1#32
  let v121 : BitVec 32 := Scalar.shrsi v2 c1_i32_94
  let c1_i32_95 : BitVec 32 := 1#32
  let v122 : BitVec 32 := Scalar.andi v121 c1_i32_95
  let v123 : BitVec 32 := Scalar.xori v2 v122
  let c1_i32_96 : BitVec 32 := 1#32
  let v124 : BitVec 32 := Scalar.xori v123 c1_i32_96
  let c1_i32_97 : BitVec 32 := 1#32
  let v125 : BitVec 32 := Scalar.shrsi v124 c1_i32_97
  let c1_i32_98 : BitVec 32 := 1#32
  let v126 : BitVec 32 := Scalar.andi v125 c1_i32_98
  let v127 : BitVec 32 := Scalar.xori v124 v126
  let c1_i32_404 : BitVec 32 := 1#32
  let v515 : BitVec 32 := Scalar.muli v127 c1_i32_404
  let v516 : BitVec 32 := Scalar.addi c0_i32_405 v515
  v516.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_102 : BitVec 32 := 1#32
  let v133 : BitVec 32 := Scalar.shrsi v2 c1_i32_102
  let c1_i32_103 : BitVec 32 := 1#32
  let v134 : BitVec 32 := Scalar.andi v133 c1_i32_103
  let v135 : BitVec 32 := Scalar.xori v2 v134
  let c2_i32_104 : BitVec 32 := 2#32
  let v136 : BitVec 32 := Scalar.xori v135 c2_i32_104
  let c1_i32_105 : BitVec 32 := 1#32
  let v137 : BitVec 32 := Scalar.shrsi v136 c1_i32_105
  let c1_i32_106 : BitVec 32 := 1#32
  let v138 : BitVec 32 := Scalar.andi v137 c1_i32_106
  let v139 : BitVec 32 := Scalar.xori v136 v138
  let c0_i32_107 : BitVec 32 := 0#32
  let v140 : BitVec 1 := Scalar.cmpi .sge v139 c0_i32_107
  let c4_i32_108 : BitVec 32 := 4#32
  let v141 : BitVec 1 := Scalar.cmpi .slt v139 c4_i32_108
  let v142 : BitVec 1 := Scalar.andi v140 v141
  let v143 : BitVec 32 := Scalar.extui v142
  let c0_i32_109 : BitVec 32 := 0#32
  let v144 : BitVec 1 := Scalar.cmpi .ne v143 c0_i32_109
  v144

def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_102 : BitVec 32 := 1#32
  let v133 : BitVec 32 := Scalar.shrsi v2 c1_i32_102
  let c1_i32_103 : BitVec 32 := 1#32
  let v134 : BitVec 32 := Scalar.andi v133 c1_i32_103
  let v135 : BitVec 32 := Scalar.xori v2 v134
  let c2_i32_104 : BitVec 32 := 2#32
  let v136 : BitVec 32 := Scalar.xori v135 c2_i32_104
  let c1_i32_105 : BitVec 32 := 1#32
  let v137 : BitVec 32 := Scalar.shrsi v136 c1_i32_105
  let c1_i32_106 : BitVec 32 := 1#32
  let v138 : BitVec 32 := Scalar.andi v137 c1_i32_106
  let v139 : BitVec 32 := Scalar.xori v136 v138
  ![v139.toNat]
def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_406 : BitVec 32 := 0#32
  let c0_i32_407 : BitVec 32 := 0#32
  ![v2.toNat, 0, 0]
def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_102 : BitVec 32 := 1#32
  let v133 : BitVec 32 := Scalar.shrsi v2 c1_i32_102
  let c1_i32_103 : BitVec 32 := 1#32
  let v134 : BitVec 32 := Scalar.andi v133 c1_i32_103
  let v135 : BitVec 32 := Scalar.xori v2 v134
  let c2_i32_104 : BitVec 32 := 2#32
  let v136 : BitVec 32 := Scalar.xori v135 c2_i32_104
  let c1_i32_105 : BitVec 32 := 1#32
  let v137 : BitVec 32 := Scalar.shrsi v136 c1_i32_105
  let c1_i32_106 : BitVec 32 := 1#32
  let v138 : BitVec 32 := Scalar.andi v137 c1_i32_106
  let v139 : BitVec 32 := Scalar.xori v136 v138
  let c0_i32_408 : BitVec 32 := 0#32
  let c0_i32_409 : BitVec 32 := 0#32
  ![v139.toNat, 0, 0]
def k0_dev12 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_102 : BitVec 32 := 1#32
  let v133 : BitVec 32 := Scalar.shrsi v2 c1_i32_102
  let c1_i32_103 : BitVec 32 := 1#32
  let v134 : BitVec 32 := Scalar.andi v133 c1_i32_103
  let v135 : BitVec 32 := Scalar.xori v2 v134
  let c2_i32_104 : BitVec 32 := 2#32
  let v136 : BitVec 32 := Scalar.xori v135 c2_i32_104
  let c1_i32_105 : BitVec 32 := 1#32
  let v137 : BitVec 32 := Scalar.shrsi v136 c1_i32_105
  let c1_i32_106 : BitVec 32 := 1#32
  let v138 : BitVec 32 := Scalar.andi v137 c1_i32_106
  let v139 : BitVec 32 := Scalar.xori v136 v138
  let c1_i32_404 : BitVec 32 := 1#32
  let v515 : BitVec 32 := Scalar.muli v139 c1_i32_404
  let v516 : BitVec 32 := Scalar.addi c0_i32_405 v515
  v516.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v145 : BitVec 32 := Scalar.shrsi v2 c1_i32_110
  let c1_i32_111 : BitVec 32 := 1#32
  let v146 : BitVec 32 := Scalar.andi v145 c1_i32_111
  let v147 : BitVec 32 := Scalar.xori v2 v146
  let c4_i32_112 : BitVec 32 := 4#32
  let v148 : BitVec 32 := Scalar.xori v147 c4_i32_112
  let c1_i32_113 : BitVec 32 := 1#32
  let v149 : BitVec 32 := Scalar.shrsi v148 c1_i32_113
  let c1_i32_114 : BitVec 32 := 1#32
  let v150 : BitVec 32 := Scalar.andi v149 c1_i32_114
  let v151 : BitVec 32 := Scalar.xori v148 v150
  let c0_i32_115 : BitVec 32 := 0#32
  let v152 : BitVec 1 := Scalar.cmpi .sge v151 c0_i32_115
  let c4_i32_116 : BitVec 32 := 4#32
  let v153 : BitVec 1 := Scalar.cmpi .slt v151 c4_i32_116
  let v154 : BitVec 1 := Scalar.andi v152 v153
  let v155 : BitVec 32 := Scalar.extui v154
  let c0_i32_117 : BitVec 32 := 0#32
  let v156 : BitVec 1 := Scalar.cmpi .ne v155 c0_i32_117
  v156

def k0_off12 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v145 : BitVec 32 := Scalar.shrsi v2 c1_i32_110
  let c1_i32_111 : BitVec 32 := 1#32
  let v146 : BitVec 32 := Scalar.andi v145 c1_i32_111
  let v147 : BitVec 32 := Scalar.xori v2 v146
  let c4_i32_112 : BitVec 32 := 4#32
  let v148 : BitVec 32 := Scalar.xori v147 c4_i32_112
  let c1_i32_113 : BitVec 32 := 1#32
  let v149 : BitVec 32 := Scalar.shrsi v148 c1_i32_113
  let c1_i32_114 : BitVec 32 := 1#32
  let v150 : BitVec 32 := Scalar.andi v149 c1_i32_114
  let v151 : BitVec 32 := Scalar.xori v148 v150
  ![v151.toNat]
def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_406 : BitVec 32 := 0#32
  let c0_i32_407 : BitVec 32 := 0#32
  ![v2.toNat, 0, 0]
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v145 : BitVec 32 := Scalar.shrsi v2 c1_i32_110
  let c1_i32_111 : BitVec 32 := 1#32
  let v146 : BitVec 32 := Scalar.andi v145 c1_i32_111
  let v147 : BitVec 32 := Scalar.xori v2 v146
  let c4_i32_112 : BitVec 32 := 4#32
  let v148 : BitVec 32 := Scalar.xori v147 c4_i32_112
  let c1_i32_113 : BitVec 32 := 1#32
  let v149 : BitVec 32 := Scalar.shrsi v148 c1_i32_113
  let c1_i32_114 : BitVec 32 := 1#32
  let v150 : BitVec 32 := Scalar.andi v149 c1_i32_114
  let v151 : BitVec 32 := Scalar.xori v148 v150
  let c0_i32_408 : BitVec 32 := 0#32
  let c0_i32_409 : BitVec 32 := 0#32
  ![v151.toNat, 0, 0]
def k0_dev13 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_110 : BitVec 32 := 1#32
  let v145 : BitVec 32 := Scalar.shrsi v2 c1_i32_110
  let c1_i32_111 : BitVec 32 := 1#32
  let v146 : BitVec 32 := Scalar.andi v145 c1_i32_111
  let v147 : BitVec 32 := Scalar.xori v2 v146
  let c4_i32_112 : BitVec 32 := 4#32
  let v148 : BitVec 32 := Scalar.xori v147 c4_i32_112
  let c1_i32_113 : BitVec 32 := 1#32
  let v149 : BitVec 32 := Scalar.shrsi v148 c1_i32_113
  let c1_i32_114 : BitVec 32 := 1#32
  let v150 : BitVec 32 := Scalar.andi v149 c1_i32_114
  let v151 : BitVec 32 := Scalar.xori v148 v150
  let c1_i32_404 : BitVec 32 := 1#32
  let v515 : BitVec 32 := Scalar.muli v151 c1_i32_404
  let v516 : BitVec 32 := Scalar.addi c0_i32_405 v515
  v516.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c7_i32 : BitVec 32 := 7#32
  let v6 : BitVec 32 := Scalar.xori v5 c7_i32
  let c1_i32_2 : BitVec 32 := 1#32
  let v7 : BitVec 32 := Scalar.shrsi v6 c1_i32_2
  let c1_i32_3 : BitVec 32 := 1#32
  let v8 : BitVec 32 := Scalar.andi v7 c1_i32_3
  let v9 : BitVec 32 := Scalar.xori v6 v8
  let c4_i32_126 : BitVec 32 := 4#32
  let v171 : BitVec 1 := Scalar.cmpi .sge v9 c4_i32_126
  let c8_i32_127 : BitVec 32 := 8#32
  let v172 : BitVec 1 := Scalar.cmpi .slt v9 c8_i32_127
  let v173 : BitVec 1 := Scalar.andi v171 v172
  let v174 : BitVec 32 := Scalar.extui v173
  let c0_i32_131 : BitVec 32 := 0#32
  let v175 : BitVec 1 := Scalar.cmpi .ne v174 c0_i32_131
  v175

def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c7_i32 : BitVec 32 := 7#32
  let v6 : BitVec 32 := Scalar.xori v5 c7_i32
  let c1_i32_2 : BitVec 32 := 1#32
  let v7 : BitVec 32 := Scalar.shrsi v6 c1_i32_2
  let c1_i32_3 : BitVec 32 := 1#32
  let v8 : BitVec 32 := Scalar.andi v7 c1_i32_3
  let v9 : BitVec 32 := Scalar.xori v6 v8
  let c0_i32_408 : BitVec 32 := 0#32
  let c0_i32_409 : BitVec 32 := 0#32
  ![v9.toNat, 0, 0]
def k0_dev14 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_121 : BitVec 32 := 1#32
  let v164 : BitVec 32 := Scalar.shrsi v2 c1_i32_121
  let c1_i32_122 : BitVec 32 := 1#32
  let v165 : BitVec 32 := Scalar.andi v164 c1_i32_122
  let v166 : BitVec 32 := Scalar.xori v2 v165
  let c1_i32_123 : BitVec 32 := 1#32
  let v167 : BitVec 32 := Scalar.xori v166 c1_i32_123
  let c1_i32_124 : BitVec 32 := 1#32
  let v168 : BitVec 32 := Scalar.shrsi v167 c1_i32_124
  let c1_i32_125 : BitVec 32 := 1#32
  let v169 : BitVec 32 := Scalar.andi v168 c1_i32_125
  let v170 : BitVec 32 := Scalar.xori v167 v169
  let c1_i32_404 : BitVec 32 := 1#32
  let v515 : BitVec 32 := Scalar.muli v170 c1_i32_404
  let v516 : BitVec 32 := Scalar.addi c0_i32_405 v515
  v516.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c7_i32 : BitVec 32 := 7#32
  let v6 : BitVec 32 := Scalar.xori v5 c7_i32
  let c1_i32_2 : BitVec 32 := 1#32
  let v7 : BitVec 32 := Scalar.shrsi v6 c1_i32_2
  let c1_i32_3 : BitVec 32 := 1#32
  let v8 : BitVec 32 := Scalar.andi v7 c1_i32_3
  let v9 : BitVec 32 := Scalar.xori v6 v8
  let c4_i32_137 : BitVec 32 := 4#32
  let v183 : BitVec 1 := Scalar.cmpi .sge v9 c4_i32_137
  let c8_i32_138 : BitVec 32 := 8#32
  let v184 : BitVec 1 := Scalar.cmpi .slt v9 c8_i32_138
  let v185 : BitVec 1 := Scalar.andi v183 v184
  let v186 : BitVec 32 := Scalar.extui v185
  let c0_i32_142 : BitVec 32 := 0#32
  let v187 : BitVec 1 := Scalar.cmpi .ne v186 c0_i32_142
  v187

def k0_off17 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c7_i32 : BitVec 32 := 7#32
  let v6 : BitVec 32 := Scalar.xori v5 c7_i32
  let c1_i32_2 : BitVec 32 := 1#32
  let v7 : BitVec 32 := Scalar.shrsi v6 c1_i32_2
  let c1_i32_3 : BitVec 32 := 1#32
  let v8 : BitVec 32 := Scalar.andi v7 c1_i32_3
  let v9 : BitVec 32 := Scalar.xori v6 v8
  let c0_i32_408 : BitVec 32 := 0#32
  let c768_i32_409 : BitVec 32 := 768#32
  ![v9.toNat, 0, 768]
def k0_dev15 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_132 : BitVec 32 := 1#32
  let v176 : BitVec 32 := Scalar.shrsi v2 c1_i32_132
  let c1_i32_133 : BitVec 32 := 1#32
  let v177 : BitVec 32 := Scalar.andi v176 c1_i32_133
  let v178 : BitVec 32 := Scalar.xori v2 v177
  let c2_i32_134 : BitVec 32 := 2#32
  let v179 : BitVec 32 := Scalar.xori v178 c2_i32_134
  let c1_i32_135 : BitVec 32 := 1#32
  let v180 : BitVec 32 := Scalar.shrsi v179 c1_i32_135
  let c1_i32_136 : BitVec 32 := 1#32
  let v181 : BitVec 32 := Scalar.andi v180 c1_i32_136
  let v182 : BitVec 32 := Scalar.xori v179 v181
  let c1_i32_404 : BitVec 32 := 1#32
  let v515 : BitVec 32 := Scalar.muli v182 c1_i32_404
  let v516 : BitVec 32 := Scalar.addi c0_i32_405 v515
  v516.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c7_i32 : BitVec 32 := 7#32
  let v6 : BitVec 32 := Scalar.xori v5 c7_i32
  let c1_i32_2 : BitVec 32 := 1#32
  let v7 : BitVec 32 := Scalar.shrsi v6 c1_i32_2
  let c1_i32_3 : BitVec 32 := 1#32
  let v8 : BitVec 32 := Scalar.andi v7 c1_i32_3
  let v9 : BitVec 32 := Scalar.xori v6 v8
  let c4_i32_148 : BitVec 32 := 4#32
  let v195 : BitVec 1 := Scalar.cmpi .sge v9 c4_i32_148
  let c8_i32_149 : BitVec 32 := 8#32
  let v196 : BitVec 1 := Scalar.cmpi .slt v9 c8_i32_149
  let v197 : BitVec 1 := Scalar.andi v195 v196
  let v198 : BitVec 32 := Scalar.extui v197
  let c0_i32_153 : BitVec 32 := 0#32
  let v199 : BitVec 1 := Scalar.cmpi .ne v198 c0_i32_153
  v199

def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c7_i32 : BitVec 32 := 7#32
  let v6 : BitVec 32 := Scalar.xori v5 c7_i32
  let c1_i32_2 : BitVec 32 := 1#32
  let v7 : BitVec 32 := Scalar.shrsi v6 c1_i32_2
  let c1_i32_3 : BitVec 32 := 1#32
  let v8 : BitVec 32 := Scalar.andi v7 c1_i32_3
  let v9 : BitVec 32 := Scalar.xori v6 v8
  let c0_i32_408 : BitVec 32 := 0#32
  let c1536_i32_409 : BitVec 32 := 1536#32
  ![v9.toNat, 0, 1536]
def k0_dev16 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_143 : BitVec 32 := 1#32
  let v188 : BitVec 32 := Scalar.shrsi v2 c1_i32_143
  let c1_i32_144 : BitVec 32 := 1#32
  let v189 : BitVec 32 := Scalar.andi v188 c1_i32_144
  let v190 : BitVec 32 := Scalar.xori v2 v189
  let c4_i32_145 : BitVec 32 := 4#32
  let v191 : BitVec 32 := Scalar.xori v190 c4_i32_145
  let c1_i32_146 : BitVec 32 := 1#32
  let v192 : BitVec 32 := Scalar.shrsi v191 c1_i32_146
  let c1_i32_147 : BitVec 32 := 1#32
  let v193 : BitVec 32 := Scalar.andi v192 c1_i32_147
  let v194 : BitVec 32 := Scalar.xori v191 v193
  let c1_i32_404 : BitVec 32 := 1#32
  let v515 : BitVec 32 := Scalar.muli v194 c1_i32_404
  let v516 : BitVec 32 := Scalar.addi c0_i32_405 v515
  v516.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_154 : BitVec 32 := 1#32
  let v200 : BitVec 32 := Scalar.shrsi v2 c1_i32_154
  let c1_i32_155 : BitVec 32 := 1#32
  let v201 : BitVec 32 := Scalar.andi v200 c1_i32_155
  let v202 : BitVec 32 := Scalar.xori v2 v201
  let c1_i32_156 : BitVec 32 := 1#32
  let v203 : BitVec 32 := Scalar.xori v202 c1_i32_156
  let c1_i32_157 : BitVec 32 := 1#32
  let v204 : BitVec 32 := Scalar.shrsi v203 c1_i32_157
  let c1_i32_158 : BitVec 32 := 1#32
  let v205 : BitVec 32 := Scalar.andi v204 c1_i32_158
  let v206 : BitVec 32 := Scalar.xori v203 v205
  let c4_i32_159 : BitVec 32 := 4#32
  let v207 : BitVec 1 := Scalar.cmpi .sge v206 c4_i32_159
  let c8_i32_160 : BitVec 32 := 8#32
  let v208 : BitVec 1 := Scalar.cmpi .slt v206 c8_i32_160
  let v209 : BitVec 1 := Scalar.andi v207 v208
  let v210 : BitVec 32 := Scalar.extui v209
  let c0_i32_161 : BitVec 32 := 0#32
  let v211 : BitVec 1 := Scalar.cmpi .ne v210 c0_i32_161
  v211

def k0_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_154 : BitVec 32 := 1#32
  let v200 : BitVec 32 := Scalar.shrsi v2 c1_i32_154
  let c1_i32_155 : BitVec 32 := 1#32
  let v201 : BitVec 32 := Scalar.andi v200 c1_i32_155
  let v202 : BitVec 32 := Scalar.xori v2 v201
  let c1_i32_156 : BitVec 32 := 1#32
  let v203 : BitVec 32 := Scalar.xori v202 c1_i32_156
  let c1_i32_157 : BitVec 32 := 1#32
  let v204 : BitVec 32 := Scalar.shrsi v203 c1_i32_157
  let c1_i32_158 : BitVec 32 := 1#32
  let v205 : BitVec 32 := Scalar.andi v204 c1_i32_158
  let v206 : BitVec 32 := Scalar.xori v203 v205
  ![v206.toNat]
def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_406 : BitVec 32 := 0#32
  let c0_i32_407 : BitVec 32 := 0#32
  ![v2.toNat, 0, 0]
def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_154 : BitVec 32 := 1#32
  let v200 : BitVec 32 := Scalar.shrsi v2 c1_i32_154
  let c1_i32_155 : BitVec 32 := 1#32
  let v201 : BitVec 32 := Scalar.andi v200 c1_i32_155
  let v202 : BitVec 32 := Scalar.xori v2 v201
  let c1_i32_156 : BitVec 32 := 1#32
  let v203 : BitVec 32 := Scalar.xori v202 c1_i32_156
  let c1_i32_157 : BitVec 32 := 1#32
  let v204 : BitVec 32 := Scalar.shrsi v203 c1_i32_157
  let c1_i32_158 : BitVec 32 := 1#32
  let v205 : BitVec 32 := Scalar.andi v204 c1_i32_158
  let v206 : BitVec 32 := Scalar.xori v203 v205
  let c0_i32_408 : BitVec 32 := 0#32
  let c0_i32_409 : BitVec 32 := 0#32
  ![v206.toNat, 0, 0]
def k0_dev17 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_154 : BitVec 32 := 1#32
  let v200 : BitVec 32 := Scalar.shrsi v2 c1_i32_154
  let c1_i32_155 : BitVec 32 := 1#32
  let v201 : BitVec 32 := Scalar.andi v200 c1_i32_155
  let v202 : BitVec 32 := Scalar.xori v2 v201
  let c1_i32_156 : BitVec 32 := 1#32
  let v203 : BitVec 32 := Scalar.xori v202 c1_i32_156
  let c1_i32_157 : BitVec 32 := 1#32
  let v204 : BitVec 32 := Scalar.shrsi v203 c1_i32_157
  let c1_i32_158 : BitVec 32 := 1#32
  let v205 : BitVec 32 := Scalar.andi v204 c1_i32_158
  let v206 : BitVec 32 := Scalar.xori v203 v205
  let c1_i32_404 : BitVec 32 := 1#32
  let v515 : BitVec 32 := Scalar.muli v206 c1_i32_404
  let v516 : BitVec 32 := Scalar.addi c0_i32_405 v515
  v516.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_162 : BitVec 32 := 1#32
  let v212 : BitVec 32 := Scalar.shrsi v2 c1_i32_162
  let c1_i32_163 : BitVec 32 := 1#32
  let v213 : BitVec 32 := Scalar.andi v212 c1_i32_163
  let v214 : BitVec 32 := Scalar.xori v2 v213
  let c2_i32_164 : BitVec 32 := 2#32
  let v215 : BitVec 32 := Scalar.xori v214 c2_i32_164
  let c1_i32_165 : BitVec 32 := 1#32
  let v216 : BitVec 32 := Scalar.shrsi v215 c1_i32_165
  let c1_i32_166 : BitVec 32 := 1#32
  let v217 : BitVec 32 := Scalar.andi v216 c1_i32_166
  let v218 : BitVec 32 := Scalar.xori v215 v217
  let c4_i32_167 : BitVec 32 := 4#32
  let v219 : BitVec 1 := Scalar.cmpi .sge v218 c4_i32_167
  let c8_i32_168 : BitVec 32 := 8#32
  let v220 : BitVec 1 := Scalar.cmpi .slt v218 c8_i32_168
  let v221 : BitVec 1 := Scalar.andi v219 v220
  let v222 : BitVec 32 := Scalar.extui v221
  let c0_i32_169 : BitVec 32 := 0#32
  let v223 : BitVec 1 := Scalar.cmpi .ne v222 c0_i32_169
  v223

def k0_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_162 : BitVec 32 := 1#32
  let v212 : BitVec 32 := Scalar.shrsi v2 c1_i32_162
  let c1_i32_163 : BitVec 32 := 1#32
  let v213 : BitVec 32 := Scalar.andi v212 c1_i32_163
  let v214 : BitVec 32 := Scalar.xori v2 v213
  let c2_i32_164 : BitVec 32 := 2#32
  let v215 : BitVec 32 := Scalar.xori v214 c2_i32_164
  let c1_i32_165 : BitVec 32 := 1#32
  let v216 : BitVec 32 := Scalar.shrsi v215 c1_i32_165
  let c1_i32_166 : BitVec 32 := 1#32
  let v217 : BitVec 32 := Scalar.andi v216 c1_i32_166
  let v218 : BitVec 32 := Scalar.xori v215 v217
  ![v218.toNat]
def k0_off24 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_406 : BitVec 32 := 0#32
  let c0_i32_407 : BitVec 32 := 0#32
  ![v2.toNat, 0, 0]
def k0_off26 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_162 : BitVec 32 := 1#32
  let v212 : BitVec 32 := Scalar.shrsi v2 c1_i32_162
  let c1_i32_163 : BitVec 32 := 1#32
  let v213 : BitVec 32 := Scalar.andi v212 c1_i32_163
  let v214 : BitVec 32 := Scalar.xori v2 v213
  let c2_i32_164 : BitVec 32 := 2#32
  let v215 : BitVec 32 := Scalar.xori v214 c2_i32_164
  let c1_i32_165 : BitVec 32 := 1#32
  let v216 : BitVec 32 := Scalar.shrsi v215 c1_i32_165
  let c1_i32_166 : BitVec 32 := 1#32
  let v217 : BitVec 32 := Scalar.andi v216 c1_i32_166
  let v218 : BitVec 32 := Scalar.xori v215 v217
  let c0_i32_408 : BitVec 32 := 0#32
  let c0_i32_409 : BitVec 32 := 0#32
  ![v218.toNat, 0, 0]
def k0_dev18 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_162 : BitVec 32 := 1#32
  let v212 : BitVec 32 := Scalar.shrsi v2 c1_i32_162
  let c1_i32_163 : BitVec 32 := 1#32
  let v213 : BitVec 32 := Scalar.andi v212 c1_i32_163
  let v214 : BitVec 32 := Scalar.xori v2 v213
  let c2_i32_164 : BitVec 32 := 2#32
  let v215 : BitVec 32 := Scalar.xori v214 c2_i32_164
  let c1_i32_165 : BitVec 32 := 1#32
  let v216 : BitVec 32 := Scalar.shrsi v215 c1_i32_165
  let c1_i32_166 : BitVec 32 := 1#32
  let v217 : BitVec 32 := Scalar.andi v216 c1_i32_166
  let v218 : BitVec 32 := Scalar.xori v215 v217
  let c1_i32_404 : BitVec 32 := 1#32
  let v515 : BitVec 32 := Scalar.muli v218 c1_i32_404
  let v516 : BitVec 32 := Scalar.addi c0_i32_405 v515
  v516.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_170 : BitVec 32 := 1#32
  let v224 : BitVec 32 := Scalar.shrsi v2 c1_i32_170
  let c1_i32_171 : BitVec 32 := 1#32
  let v225 : BitVec 32 := Scalar.andi v224 c1_i32_171
  let v226 : BitVec 32 := Scalar.xori v2 v225
  let c4_i32_172 : BitVec 32 := 4#32
  let v227 : BitVec 32 := Scalar.xori v226 c4_i32_172
  let c1_i32_173 : BitVec 32 := 1#32
  let v228 : BitVec 32 := Scalar.shrsi v227 c1_i32_173
  let c1_i32_174 : BitVec 32 := 1#32
  let v229 : BitVec 32 := Scalar.andi v228 c1_i32_174
  let v230 : BitVec 32 := Scalar.xori v227 v229
  let c4_i32_175 : BitVec 32 := 4#32
  let v231 : BitVec 1 := Scalar.cmpi .sge v230 c4_i32_175
  let c8_i32_176 : BitVec 32 := 8#32
  let v232 : BitVec 1 := Scalar.cmpi .slt v230 c8_i32_176
  let v233 : BitVec 1 := Scalar.andi v231 v232
  let v234 : BitVec 32 := Scalar.extui v233
  let c0_i32_177 : BitVec 32 := 0#32
  let v235 : BitVec 1 := Scalar.cmpi .ne v234 c0_i32_177
  v235

def k0_off27 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_170 : BitVec 32 := 1#32
  let v224 : BitVec 32 := Scalar.shrsi v2 c1_i32_170
  let c1_i32_171 : BitVec 32 := 1#32
  let v225 : BitVec 32 := Scalar.andi v224 c1_i32_171
  let v226 : BitVec 32 := Scalar.xori v2 v225
  let c4_i32_172 : BitVec 32 := 4#32
  let v227 : BitVec 32 := Scalar.xori v226 c4_i32_172
  let c1_i32_173 : BitVec 32 := 1#32
  let v228 : BitVec 32 := Scalar.shrsi v227 c1_i32_173
  let c1_i32_174 : BitVec 32 := 1#32
  let v229 : BitVec 32 := Scalar.andi v228 c1_i32_174
  let v230 : BitVec 32 := Scalar.xori v227 v229
  ![v230.toNat]
def k0_off28 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_406 : BitVec 32 := 0#32
  let c0_i32_407 : BitVec 32 := 0#32
  ![v2.toNat, 0, 0]
def k0_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_170 : BitVec 32 := 1#32
  let v224 : BitVec 32 := Scalar.shrsi v2 c1_i32_170
  let c1_i32_171 : BitVec 32 := 1#32
  let v225 : BitVec 32 := Scalar.andi v224 c1_i32_171
  let v226 : BitVec 32 := Scalar.xori v2 v225
  let c4_i32_172 : BitVec 32 := 4#32
  let v227 : BitVec 32 := Scalar.xori v226 c4_i32_172
  let c1_i32_173 : BitVec 32 := 1#32
  let v228 : BitVec 32 := Scalar.shrsi v227 c1_i32_173
  let c1_i32_174 : BitVec 32 := 1#32
  let v229 : BitVec 32 := Scalar.andi v228 c1_i32_174
  let v230 : BitVec 32 := Scalar.xori v227 v229
  let c0_i32_408 : BitVec 32 := 0#32
  let c0_i32_409 : BitVec 32 := 0#32
  ![v230.toNat, 0, 0]
def k0_dev19 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_170 : BitVec 32 := 1#32
  let v224 : BitVec 32 := Scalar.shrsi v2 c1_i32_170
  let c1_i32_171 : BitVec 32 := 1#32
  let v225 : BitVec 32 := Scalar.andi v224 c1_i32_171
  let v226 : BitVec 32 := Scalar.xori v2 v225
  let c4_i32_172 : BitVec 32 := 4#32
  let v227 : BitVec 32 := Scalar.xori v226 c4_i32_172
  let c1_i32_173 : BitVec 32 := 1#32
  let v228 : BitVec 32 := Scalar.shrsi v227 c1_i32_173
  let c1_i32_174 : BitVec 32 := 1#32
  let v229 : BitVec 32 := Scalar.andi v228 c1_i32_174
  let v230 : BitVec 32 := Scalar.xori v227 v229
  let c1_i32_404 : BitVec 32 := 1#32
  let v515 : BitVec 32 := Scalar.muli v230 c1_i32_404
  let v516 : BitVec 32 := Scalar.addi c0_i32_405 v515
  v516.toNat
def k0_off31 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c7_i32 : BitVec 32 := 7#32
  let v6 : BitVec 32 := Scalar.xori v5 c7_i32
  let c1_i32_2 : BitVec 32 := 1#32
  let v7 : BitVec 32 := Scalar.shrsi v6 c1_i32_2
  let c1_i32_3 : BitVec 32 := 1#32
  let v8 : BitVec 32 := Scalar.andi v7 c1_i32_3
  let v9 : BitVec 32 := Scalar.xori v6 v8
  let v237 : Index := Scalar.indexCast v9
  let c0_179 : Index := 0#32
  let c0_180 : Index := 0#32
  ![v237.toNat, 0, 0]
def k0_off32 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v241 : Index := Scalar.indexCast v2
  let c0_181 : Index := 0#32
  let c0_182 : Index := 0#32
  ![v241.toNat, 0, 0]
def k0_off33 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_200 : BitVec 32 := 1#32
  let v262 : BitVec 32 := Scalar.shrsi v2 c1_i32_200
  let c1_i32_201 : BitVec 32 := 1#32
  let v263 : BitVec 32 := Scalar.andi v262 c1_i32_201
  let v264 : BitVec 32 := Scalar.xori v2 v263
  let c6_i32_202 : BitVec 32 := 6#32
  let v265 : BitVec 32 := Scalar.xori v264 c6_i32_202
  let c1_i32_203 : BitVec 32 := 1#32
  let v266 : BitVec 32 := Scalar.shrsi v265 c1_i32_203
  let c1_i32_204 : BitVec 32 := 1#32
  let v267 : BitVec 32 := Scalar.andi v266 c1_i32_204
  let v268 : BitVec 32 := Scalar.xori v265 v267
  let v269 : Index := Scalar.indexCast v268
  let c0_205 : Index := 0#32
  let c0_206 : Index := 0#32
  ![v269.toNat, 0, 0]
def k0_off34 (d0 : Dev nD) (c6_i32_202 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_200 : BitVec 32 := 1#32
  let v262 : BitVec 32 := Scalar.shrsi v2 c1_i32_200
  let c1_i32_201 : BitVec 32 := 1#32
  let v263 : BitVec 32 := Scalar.andi v262 c1_i32_201
  let v264 : BitVec 32 := Scalar.xori v2 v263
  let v265 : BitVec 32 := Scalar.xori v264 c6_i32_202
  let c1_i32_203 : BitVec 32 := 1#32
  let v266 : BitVec 32 := Scalar.shrsi v265 c1_i32_203
  let c1_i32_204 : BitVec 32 := 1#32
  let v267 : BitVec 32 := Scalar.andi v266 c1_i32_204
  let v268 : BitVec 32 := Scalar.xori v265 v267
  ![v268.toNat]
def k0_off35 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_214 : BitVec 32 := 0#32
  let c0_i32_215 : BitVec 32 := 0#32
  ![v2.toNat, 0, 0]
def k0_off37 (d0 : Dev nD) (c6_i32_202 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_200 : BitVec 32 := 1#32
  let v262 : BitVec 32 := Scalar.shrsi v2 c1_i32_200
  let c1_i32_201 : BitVec 32 := 1#32
  let v263 : BitVec 32 := Scalar.andi v262 c1_i32_201
  let v264 : BitVec 32 := Scalar.xori v2 v263
  let v265 : BitVec 32 := Scalar.xori v264 c6_i32_202
  let c1_i32_203 : BitVec 32 := 1#32
  let v266 : BitVec 32 := Scalar.shrsi v265 c1_i32_203
  let c1_i32_204 : BitVec 32 := 1#32
  let v267 : BitVec 32 := Scalar.andi v266 c1_i32_204
  let v268 : BitVec 32 := Scalar.xori v265 v267
  let c0_i32_216 : BitVec 32 := 0#32
  let c0_i32_217 : BitVec 32 := 0#32
  ![v268.toNat, 0, 0]
def k0_dev20 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_200 : BitVec 32 := 1#32
  let v262 : BitVec 32 := Scalar.shrsi v2 c1_i32_200
  let c1_i32_201 : BitVec 32 := 1#32
  let v263 : BitVec 32 := Scalar.andi v262 c1_i32_201
  let v264 : BitVec 32 := Scalar.xori v2 v263
  let c6_i32_202 : BitVec 32 := 6#32
  let v265 : BitVec 32 := Scalar.xori v264 c6_i32_202
  let c1_i32_203 : BitVec 32 := 1#32
  let v266 : BitVec 32 := Scalar.shrsi v265 c1_i32_203
  let c1_i32_204 : BitVec 32 := 1#32
  let v267 : BitVec 32 := Scalar.andi v266 c1_i32_204
  let v268 : BitVec 32 := Scalar.xori v265 v267
  let c1_i32_212 : BitVec 32 := 1#32
  let v277 : BitVec 32 := Scalar.muli v268 c1_i32_212
  let v278 : BitVec 32 := Scalar.addi c0_i32_213 v277
  v278.toNat
def k0_off38 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_233 : BitVec 32 := 1#32
  let v302 : BitVec 32 := Scalar.shrsi v2 c1_i32_233
  let c1_i32_234 : BitVec 32 := 1#32
  let v303 : BitVec 32 := Scalar.andi v302 c1_i32_234
  let v304 : BitVec 32 := Scalar.xori v2 v303
  let c5_i32_235 : BitVec 32 := 5#32
  let v305 : BitVec 32 := Scalar.xori v304 c5_i32_235
  let c1_i32_236 : BitVec 32 := 1#32
  let v306 : BitVec 32 := Scalar.shrsi v305 c1_i32_236
  let c1_i32_237 : BitVec 32 := 1#32
  let v307 : BitVec 32 := Scalar.andi v306 c1_i32_237
  let v308 : BitVec 32 := Scalar.xori v305 v307
  let v309 : Index := Scalar.indexCast v308
  let c0_238 : Index := 0#32
  let c768 : Index := 768#32
  ![v309.toNat, 0, 768]
def k0_dev21 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_233 : BitVec 32 := 1#32
  let v302 : BitVec 32 := Scalar.shrsi v2 c1_i32_233
  let c1_i32_234 : BitVec 32 := 1#32
  let v303 : BitVec 32 := Scalar.andi v302 c1_i32_234
  let v304 : BitVec 32 := Scalar.xori v2 v303
  let c5_i32_235 : BitVec 32 := 5#32
  let v305 : BitVec 32 := Scalar.xori v304 c5_i32_235
  let c1_i32_236 : BitVec 32 := 1#32
  let v306 : BitVec 32 := Scalar.shrsi v305 c1_i32_236
  let c1_i32_237 : BitVec 32 := 1#32
  let v307 : BitVec 32 := Scalar.andi v306 c1_i32_237
  let v308 : BitVec 32 := Scalar.xori v305 v307
  let c1_i32_243 : BitVec 32 := 1#32
  let v317 : BitVec 32 := Scalar.muli v308 c1_i32_243
  let v318 : BitVec 32 := Scalar.addi c0_i32_244 v317
  v318.toNat
def k0_off39 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_264 : BitVec 32 := 1#32
  let v342 : BitVec 32 := Scalar.shrsi v2 c1_i32_264
  let c1_i32_265 : BitVec 32 := 1#32
  let v343 : BitVec 32 := Scalar.andi v342 c1_i32_265
  let v344 : BitVec 32 := Scalar.xori v2 v343
  let c3_i32_266 : BitVec 32 := 3#32
  let v345 : BitVec 32 := Scalar.xori v344 c3_i32_266
  let c1_i32_267 : BitVec 32 := 1#32
  let v346 : BitVec 32 := Scalar.shrsi v345 c1_i32_267
  let c1_i32_268 : BitVec 32 := 1#32
  let v347 : BitVec 32 := Scalar.andi v346 c1_i32_268
  let v348 : BitVec 32 := Scalar.xori v345 v347
  let v349 : Index := Scalar.indexCast v348
  let c0_269 : Index := 0#32
  let c1536 : Index := 1536#32
  ![v349.toNat, 0, 1536]
def k0_dev22 (d0 : Dev nD) : Nat :=
  let c0_i32_275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_264 : BitVec 32 := 1#32
  let v342 : BitVec 32 := Scalar.shrsi v2 c1_i32_264
  let c1_i32_265 : BitVec 32 := 1#32
  let v343 : BitVec 32 := Scalar.andi v342 c1_i32_265
  let v344 : BitVec 32 := Scalar.xori v2 v343
  let c3_i32_266 : BitVec 32 := 3#32
  let v345 : BitVec 32 := Scalar.xori v344 c3_i32_266
  let c1_i32_267 : BitVec 32 := 1#32
  let v346 : BitVec 32 := Scalar.shrsi v345 c1_i32_267
  let c1_i32_268 : BitVec 32 := 1#32
  let v347 : BitVec 32 := Scalar.andi v346 c1_i32_268
  let v348 : BitVec 32 := Scalar.xori v345 v347
  let c1_i32_274 : BitVec 32 := 1#32
  let v357 : BitVec 32 := Scalar.muli v348 c1_i32_274
  let v358 : BitVec 32 := Scalar.addi c0_i32_275 v357
  v358.toNat
def k0_off40 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c7_i32 : BitVec 32 := 7#32
  let v6 : BitVec 32 := Scalar.xori v5 c7_i32
  let c1_i32_2 : BitVec 32 := 1#32
  let v7 : BitVec 32 := Scalar.shrsi v6 c1_i32_2
  let c1_i32_3 : BitVec 32 := 1#32
  let v8 : BitVec 32 := Scalar.andi v7 c1_i32_3
  let v9 : BitVec 32 := Scalar.xori v6 v8
  let c0_i32_356 : BitVec 32 := 0#32
  let c0_i32_357 : BitVec 32 := 0#32
  ![v9.toNat, 0, 0]
def k0_off41 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c7_i32 : BitVec 32 := 7#32
  let v6 : BitVec 32 := Scalar.xori v5 c7_i32
  let c1_i32_2 : BitVec 32 := 1#32
  let v7 : BitVec 32 := Scalar.shrsi v6 c1_i32_2
  let c1_i32_3 : BitVec 32 := 1#32
  let v8 : BitVec 32 := Scalar.andi v7 c1_i32_3
  let v9 : BitVec 32 := Scalar.xori v6 v8
  let c0_i32_364 : BitVec 32 := 0#32
  let c768_i32 : BitVec 32 := 768#32
  ![v9.toNat, 0, 768]
def k0_off42 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c7_i32 : BitVec 32 := 7#32
  let v6 : BitVec 32 := Scalar.xori v5 c7_i32
  let c1_i32_2 : BitVec 32 := 1#32
  let v7 : BitVec 32 := Scalar.shrsi v6 c1_i32_2
  let c1_i32_3 : BitVec 32 := 1#32
  let v8 : BitVec 32 := Scalar.andi v7 c1_i32_3
  let v9 : BitVec 32 := Scalar.xori v6 v8
  let c0_i32_371 : BitVec 32 := 0#32
  let c1536_i32 : BitVec 32 := 1536#32
  ![v9.toNat, 0, 1536]
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x512 : Shape := ⟨2, ![4096, 512]⟩
abbrev S4096x2048 : Shape := ⟨2, ![4096, 2048]⟩
abbrev S512x2048 : Shape := ⟨2, ![512, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x2048, .f32⟩
  | .hbm, ⟨3, _⟩ => ⟨S512x2048, .bf16⟩
  | .hbm, ⟨4, _⟩ => ⟨S512x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Peers.lean ====
/-
# The exchange of device blocks: who talks to whom

Eight devices, each talking to seven others. A device's neighbour at relation `o` (`o = 1 … 7`) is found by
passing to the Gray code, exclusive-or-ing `o`, and passing back; the relation is symmetric, so that `peer (peer c o) o = c`.
This module names that map, reads the kernel's own address arithmetic as it, and states which of the kernel's
branches a device takes.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelProof

open Cert.KernelIdeal Cert.KernelIdeal.Gen
open Idealize.ShloMosaic
open Idealize.ShloMosaic.TcCoe

/-! ## The neighbours -/

/-- The Gray code of a device number among eight — its own inverse after one more pass, the numbers having three bits
    and the pass changing only the lowest. -/
def gray (x : ℕ) : ℕ := x ^^^ ((x >>> 1) &&& 1)

set_option backward.proofsInPublic true in
/-- Device `c`'s neighbour at relation `o`. -/
def peer (c : Dev nD) (o : Fin 8) : Dev nD := ⟨gray (gray c.val ^^^ o.val) % 8, Nat.mod_lt _ (by decide)⟩

/-- The farthest device, and the neighbour relation of the relayed column group `d`. -/
abbrev far (c : Dev nD) : Dev nD := peer c 7
def rel : Fin 3 → Fin 8 := ![1, 2, 4]
/-- The relation of the device that gets what was relayed to `c` in column group `d`. -/
def rem : Fin 3 → Fin 8 := ![6, 5, 3]

theorem peer_peer (c : Dev nD) (o : Fin 8) : peer (peer c o) o = c := by revert c o; decide +kernel
theorem peer_zero (c : Dev nD) : peer c 0 = c := by revert c; decide +kernel
theorem peer_inj (c : Dev nD) {o o' : Fin 8} : peer c o = peer c o' → o = o' := by revert c o o'; decide +kernel
theorem peer_surj (c p : Dev nD) : ∃ o, peer c o = p := by revert c p; decide +kernel
theorem far_rel (c : Dev nD) (d : Fin 3) : far (peer c (rel d)) = peer c (rem d) := by revert c d; decide +kernel
theorem far_peer_rem (c : Dev nD) (d : Fin 3) : peer (peer c (rem d)) (rel d) = far c := by revert c d; decide +kernel
theorem far_rem (c : Dev nD) (d : Fin 3) : far (peer (peer c (rem d)) (rel d)) = c := by revert c d; decide +kernel
theorem peer_ne (c : Dev nD) {o : Fin 8} (h : o ≠ 0) : peer c o ≠ c := by revert c o; decide +kernel
theorem peer_ne_far (c : Dev nD) {o : Fin 8} (h : o ≠ 7) : peer c o ≠ far c := fun e => h (peer_inj c e)

/-- Relations 0 … 3 stay within a device's half of the eight, 4 … 7 cross to the other one. -/
theorem peer_half (c : Dev nD) (o : Fin 8) : (peer c o).val < 4 ↔ (c.val < 4 ↔ o.val < 4) := by revert c o; decide +kernel

/-- Device `c`'s neighbours, listed by relation, are all eight devices once each. -/
def peers (c : Dev nD) : Fin 8 ≃ Dev nD :=
  Equiv.ofBijective (peer c) ⟨fun _ _ h => peer_inj c h, peer_surj c⟩
@[simp] theorem peers_apply (c : Dev nD) (o : Fin 8) : peers c o = peer c o := rfl

/-- At one relation, being neighbours pairs the devices up. -/
def swap (o : Fin 8) : Dev nD ≃ Dev nD := ⟨fun c => peer c o, fun c => peer c o, fun c => peer_peer c o, fun c => peer_peer c o⟩
@[simp] theorem swap_apply (o : Fin 8) (c : Dev nD) : swap o c = peer c o := rfl

/-! ## The kernel's device numbers -/

theorem dev1_eq (c : Dev nD) (h) : (⟨k0_dev1 c, h⟩ : Dev nD) = peer c 1 := Fin.ext (by revert c; decide +kernel)
theorem dev2_eq (c : Dev nD) (h) : (⟨k0_dev2 c, h⟩ : Dev nD) = peer c 2 := Fin.ext (by revert c; decide +kernel)
theorem dev3_eq (c : Dev nD) (h) : (⟨k0_dev3 c, h⟩ : Dev nD) = peer c 3 := Fin.ext (by revert c; decide +kernel)
theorem dev4_eq (c : Dev nD) (h) : (⟨k0_dev4 c, h⟩ : Dev nD) = peer c 4 := Fin.ext (by revert c; decide +kernel)
theorem dev5_eq (c : Dev nD) (h) : (⟨k0_dev5 c, h⟩ : Dev nD) = peer c 5 := Fin.ext (by revert c; decide +kernel)
theorem dev6_eq (c : Dev nD) (h) : (⟨k0_dev6 c, h⟩ : Dev nD) = peer c 6 := Fin.ext (by revert c; decide +kernel)
theorem dev7_eq (c : Dev nD) (h) : (⟨k0_dev7 c, h⟩ : Dev nD) = peer c 7 := Fin.ext (by revert c; decide +kernel)
theorem dev8_eq (c : Dev nD) (h) : (⟨k0_dev8 c, h⟩ : Dev nD) = peer c 1 := Fin.ext (by revert c; decide +kernel)
theorem dev9_eq (c : Dev nD) (h) : (⟨k0_dev9 c, h⟩ : Dev nD) = peer c 2 := Fin.ext (by revert c; decide +kernel)
theorem dev10_eq (c : Dev nD) (h) : (⟨k0_dev10 c, h⟩ : Dev nD) = peer c 4 := Fin.ext (by revert c; decide +kernel)
theorem dev11_eq (c : Dev nD) (h) : (⟨k0_dev11 c, h⟩ : Dev nD) = peer c 1 := Fin.ext (by revert c; decide +kernel)
theorem dev12_eq (c : Dev nD) (h) : (⟨k0_dev12 c, h⟩ : Dev nD) = peer c 2 := Fin.ext (by revert c; decide +kernel)
theorem dev13_eq (c : Dev nD) (h) : (⟨k0_dev13 c, h⟩ : Dev nD) = peer c 4 := Fin.ext (by revert c; decide +kernel)
theorem dev14_eq (c : Dev nD) (h) : (⟨k0_dev14 c, h⟩ : Dev nD) = peer c 1 := Fin.ext (by revert c; decide +kernel)
theorem dev15_eq (c : Dev nD) (h) : (⟨k0_dev15 c, h⟩ : Dev nD) = peer c 2 := Fin.ext (by revert c; decide +kernel)
theorem dev16_eq (c : Dev nD) (h) : (⟨k0_dev16 c, h⟩ : Dev nD) = peer c 4 := Fin.ext (by revert c; decide +kernel)
theorem dev17_eq (c : Dev nD) (h) : (⟨k0_dev17 c, h⟩ : Dev nD) = peer c 1 := Fin.ext (by revert c; decide +kernel)
theorem dev18_eq (c : Dev nD) (h) : (⟨k0_dev18 c, h⟩ : Dev nD) = peer c 2 := Fin.ext (by revert c; decide +kernel)
theorem dev19_eq (c : Dev nD) (h) : (⟨k0_dev19 c, h⟩ : Dev nD) = peer c 4 := Fin.ext (by revert c; decide +kernel)
theorem dev20_eq (c : Dev nD) (h) : (⟨k0_dev20 c, h⟩ : Dev nD) = peer c 6 := Fin.ext (by revert c; decide +kernel)
theorem dev21_eq (c : Dev nD) (h) : (⟨k0_dev21 c, h⟩ : Dev nD) = peer c 5 := Fin.ext (by revert c; decide +kernel)
theorem dev22_eq (c : Dev nD) (h) : (⟨k0_dev22 c, h⟩ : Dev nD) = peer c 3 := Fin.ext (by revert c; decide +kernel)

/-! ## The branches: the lower half of the devices sends its near neighbours first, the upper half relays first -/

theorem conds_low (c : Dev nD) (h : c.val < 4) :
    k0_cond1 c ≠ 1#1 ∧ k0_cond2 c ≠ 1#1 ∧ k0_cond3 c ≠ 1#1 ∧ k0_cond4 c = 1#1 ∧ k0_cond5 c = 1#1 ∧ k0_cond6 c ≠ 1#1
      ∧ k0_cond7 c = 1#1 ∧ k0_cond8 c = 1#1 ∧ k0_cond9 c = 1#1 ∧ k0_cond10 c ≠ 1#1 ∧ k0_cond11 c ≠ 1#1 ∧ k0_cond12 c = 1#1 := by
  revert c; decide +kernel
theorem conds_high (c : Dev nD) (h : ¬ c.val < 4) :
    k0_cond1 c = 1#1 ∧ k0_cond2 c = 1#1 ∧ k0_cond3 c = 1#1 ∧ k0_cond4 c ≠ 1#1 ∧ k0_cond5 c ≠ 1#1 ∧ k0_cond6 c = 1#1
      ∧ k0_cond7 c ≠ 1#1 ∧ k0_cond8 c ≠ 1#1 ∧ k0_cond9 c ≠ 1#1 ∧ k0_cond10 c = 1#1 ∧ k0_cond11 c = 1#1 ∧ k0_cond12 c ≠ 1#1 := by
  revert c; decide +kernel

/-! ## The slice offsets -/

theorem off1_eq (c : Dev nD) : k0_off1 c = ![(far c).val, 0, 0] := by revert c; decide +kernel
theorem off2_eq (c : Dev nD) : k0_off2 c = ![(far c).val, 0, 768] := by revert c; decide +kernel
theorem off3_eq (c : Dev nD) : k0_off3 c = ![(far c).val, 0, 1536] := by revert c; decide +kernel
theorem off16_eq (c : Dev nD) : k0_off16 c = ![(far c).val, 0, 0] := by revert c; decide +kernel
theorem off17_eq (c : Dev nD) : k0_off17 c = ![(far c).val, 0, 768] := by revert c; decide +kernel
theorem off18_eq (c : Dev nD) : k0_off18 c = ![(far c).val, 0, 1536] := by revert c; decide +kernel
theorem off40_eq (c : Dev nD) : k0_off40 c = ![(far c).val, 0, 0] := by revert c; decide +kernel
theorem off41_eq (c : Dev nD) : k0_off41 c = ![(far c).val, 0, 768] := by revert c; decide +kernel
theorem off42_eq (c : Dev nD) : k0_off42 c = ![(far c).val, 0, 1536] := by revert c; decide +kernel
theorem off4_eq (c : Dev nD) : k0_off4 c = ![(peer c 1).val] := by revert c; decide +kernel
theorem off8_eq (c : Dev nD) : k0_off8 c = ![(peer c 2).val] := by revert c; decide +kernel
theorem off12_eq (c : Dev nD) : k0_off12 c = ![(peer c 4).val] := by revert c; decide +kernel
theorem off19_eq (c : Dev nD) : k0_off19 c = ![(peer c 1).val] := by revert c; decide +kernel
theorem off23_eq (c : Dev nD) : k0_off23 c = ![(peer c 2).val] := by revert c; decide +kernel
theorem off27_eq (c : Dev nD) : k0_off27 c = ![(peer c 4).val] := by revert c; decide +kernel
theorem off7_eq (c : Dev nD) : k0_off7 c = ![(peer c 1).val, 0, 0] := by revert c; decide +kernel
theorem off11_eq (c : Dev nD) : k0_off11 c = ![(peer c 2).val, 0, 0] := by revert c; decide +kernel
theorem off15_eq (c : Dev nD) : k0_off15 c = ![(peer c 4).val, 0, 0] := by revert c; decide +kernel
theorem off22_eq (c : Dev nD) : k0_off22 c = ![(peer c 1).val, 0, 0] := by revert c; decide +kernel
theorem off26_eq (c : Dev nD) : k0_off26 c = ![(peer c 2).val, 0, 0] := by revert c; decide +kernel
theorem off30_eq (c : Dev nD) : k0_off30 c = ![(peer c 4).val, 0, 0] := by revert c; decide +kernel
theorem off31_eq (c : Dev nD) : k0_off31 c = ![(far c).val, 0, 0] := by revert c; decide +kernel
theorem off33_eq (c : Dev nD) : k0_off33 c = ![(peer c 6).val, 0, 0] := by revert c; decide +kernel
theorem off38_eq (c : Dev nD) : k0_off38 c = ![(peer c 5).val, 0, 768] := by revert c; decide +kernel
theorem off39_eq (c : Dev nD) : k0_off39 c = ![(peer c 3).val, 0, 1536] := by revert c; decide +kernel
theorem off34_eq (c : Dev nD) (r : Fin 6) : k0_off34 c (BitVec.ofNat 32 (1 + r.val)) = ![(peer c ⟨1 + r.val, by omega⟩).val] := by
  revert c r; decide +kernel
theorem off37_eq (c : Dev nD) (r : Fin 6) : k0_off37 c (BitVec.ofNat 32 (1 + r.val)) = ![(peer c ⟨1 + r.val, by omega⟩).val, 0, 0] := by
  revert c r; decide +kernel

end Cert.KernelProof

end
-- ==== Proof.Contents.lean ====
/-
# The exchange of device blocks: the buffers, their parts, and what they come to hold

Each device keeps its products in `pc` (eight slots, one per destination), receives into `rv` (eight slots, one per
source) and receives what it is to pass on into `rl` (three slots, one per column group). This module names the parts
of those buffers that are sent, received and rewritten — by conditions on the indices — and the contents they come to
hold, each as a function on the whole buffer.
-/
module

public import proofs.«01_k».proof.Proof.Peers

@[expose] public section

noncomputable section

namespace Cert.KernelProof

open Cert.KernelIdeal Cert.KernelIdeal.Gen
open Idealize.ShloMosaic
open Idealize.ShloMosaic.TcCoe

variable {F : FTy → Type} [FloatOps F]

/-! ## The memrefs -/

abbrev xM : Memref sig .tc .vmem S512x512 .bf16 := Memref.whole cc0_stg0_0
abbrev dyM : Memref sig .tc .vmem S512x2048 .bf16 := Memref.whole cc0_stg1_0
abbrev oM : Memref sig .tc .vmem S64x2048 .f32 := Memref.whole cc0_stg2_0
abbrev pcM : Memref sig .tc .vmem S8x64x2048 .bf16 := Memref.whole cc0_scratch0
abbrev rvM : Memref sig .tc .vmem S8x64x2048 .bf16 := Memref.whole cc0_scratch1
abbrev rlM : Memref sig .tc .vmem S3x64x768 .bf16 := Memref.whole cc0_scratch2

/-! ## The rectangles -/

theorem slot_inb (p : Dev nD) : ∀ a, (![p.val, 0, 0] : Fin 3 → ℕ) a + S1x64x2048.size a ≤ S8x64x2048.size a := by
  revert p; decide
theorem col0_inb (p : Dev nD) : ∀ a, (![p.val, 0, 0] : Fin 3 → ℕ) a + S1x64x768.size a ≤ S8x64x2048.size a := by
  revert p; decide
theorem col1_inb (p : Dev nD) : ∀ a, (![p.val, 0, 768] : Fin 3 → ℕ) a + S1x64x768.size a ≤ S8x64x2048.size a := by
  revert p; decide
theorem col2_inb (p : Dev nD) : ∀ a, (![p.val, 0, 1536] : Fin 3 → ℕ) a + S1x64x512.size a ≤ S8x64x2048.size a := by
  revert p; decide

/-- Slot `p` of an eight-slot buffer, and its three column groups. -/
abbrev slotR (p : Dev nD) : Rect S8x64x2048 := Rect.unit ![p.val, 0, 0] S1x64x2048.size (slot_inb p)
abbrev col0R (p : Dev nD) : Rect S8x64x2048 := Rect.unit ![p.val, 0, 0] S1x64x768.size (col0_inb p)
abbrev col1R (p : Dev nD) : Rect S8x64x2048 := Rect.unit ![p.val, 0, 768] S1x64x768.size (col1_inb p)
abbrev col2R (p : Dev nD) : Rect S8x64x2048 := Rect.unit ![p.val, 0, 1536] S1x64x512.size (col2_inb p)
/-- The two halves of the product buffer. -/
abbrev loR : Rect S8x64x2048 := Rect.unit ![0, 0, 0] S4x64x2048.size inb_S8x64x2048_S4x64x2048_0_0_0
abbrev hiR : Rect S8x64x2048 := Rect.unit ![4, 0, 0] S4x64x2048.size inb_S8x64x2048_S4x64x2048_4_0_0
/-- The three relay slots. -/
abbrev rl0R : Rect S3x64x768 := Rect.unit ![0, 0, 0] S1x64x768.size inb_S3x64x768_S1x64x768_0_0_0
abbrev rl1R : Rect S3x64x768 := Rect.unit ![1, 0, 0] S1x64x768.size inb_S3x64x768_S1x64x768_1_0_0
abbrev rl2R : Rect S3x64x768 := Rect.unit ![2, 0, 0] S1x64x512.size inb_S3x64x768_S1x64x512_2_0_0

/-! ## The parts, by conditions on the indices -/

def slotSet (p : Dev nD) : Finset S8x64x2048.Idx := Finset.univ.filter fun i => (i 0).val = p.val
def colSet (p : Dev nD) (d : Fin 3) : Finset S8x64x2048.Idx :=
  Finset.univ.filter fun i => (i 0).val = p.val ∧ 768 * d.val ≤ (i 2).val ∧ (i 2).val < 768 * d.val + 768
def rlSet (d : Fin 3) : Finset S3x64x768.Idx :=
  Finset.univ.filter fun i => (i 0).val = d.val ∧ (d.val = 2 → (i 2).val < 512)
def loSet : Finset S8x64x2048.Idx := Finset.univ.filter fun i => (i 0).val < 4
def hiSet : Finset S8x64x2048.Idx := Finset.univ.filter fun i => ¬ (i 0).val < 4

theorem mem_slotSet {p : Dev nD} {i : S8x64x2048.Idx} : i ∈ slotSet p ↔ (i 0).val = p.val := by simp [slotSet]
theorem mem_colSet {p : Dev nD} {d : Fin 3} {i : S8x64x2048.Idx} :
    i ∈ colSet p d ↔ (i 0).val = p.val ∧ 768 * d.val ≤ (i 2).val ∧ (i 2).val < 768 * d.val + 768 := by simp [colSet]
theorem mem_rlSet {d : Fin 3} {i : S3x64x768.Idx} : i ∈ rlSet d ↔ (i 0).val = d.val ∧ (d.val = 2 → (i 2).val < 512) := by
  simp [rlSet]
theorem mem_loSet {i : S8x64x2048.Idx} : i ∈ loSet ↔ (i 0).val < 4 := by simp [loSet]
theorem mem_hiSet {i : S8x64x2048.Idx} : i ∈ hiSet ↔ ¬ (i 0).val < 4 := by simp [hiSet]

/-- An index of an eight-slot buffer moved to slot `p`. -/
def setSlot (i : S8x64x2048.Idx) (p : Dev nD) : S8x64x2048.Idx :=
  fun (a : Fin 3) => match a with | 0 => (⟨p.val, p.isLt⟩ : Fin 8) | 1 => i 1 | 2 => i 2

/-- The axes of the two three-dimensional shapes, bounded. -/
theorem bd8 (i : S8x64x2048.Idx) : (i 0).val < 8 ∧ (i 1).val < 64 ∧ (i 2).val < 2048 := ⟨(i 0).isLt, (i 1).isLt, (i 2).isLt⟩
theorem bd3 (i : S3x64x768.Idx) : (i 0).val < 3 ∧ (i 1).val < 64 ∧ (i 2).val < 768 := ⟨(i 0).isLt, (i 1).isLt, (i 2).isLt⟩

theorem slotR_set (p : Dev nD) : (slotR p).set = slotSet p := by
  ext i; have := bd8 i
  rw [Rect.mem_set_unit, mem_slotSet, Fin.forall_fin_succ, Fin.forall_fin_succ, Fin.forall_fin_succ]
  simp [Fin.forall_fin_zero_pi, S1x64x2048]; omega
theorem col0R_set (p : Dev nD) : (col0R p).set = colSet p 0 := by
  ext i; have := bd8 i
  rw [Rect.mem_set_unit, mem_colSet, Fin.forall_fin_succ, Fin.forall_fin_succ, Fin.forall_fin_succ]
  simp [Fin.forall_fin_zero_pi, S1x64x768]; omega
theorem col1R_set (p : Dev nD) : (col1R p).set = colSet p 1 := by
  ext i; have := bd8 i
  rw [Rect.mem_set_unit, mem_colSet, Fin.forall_fin_succ, Fin.forall_fin_succ, Fin.forall_fin_succ]
  simp [Fin.forall_fin_zero_pi, S1x64x768]; omega
theorem col2R_set (p : Dev nD) : (col2R p).set = colSet p 2 := by
  ext i; have := bd8 i
  rw [Rect.mem_set_unit, mem_colSet, Fin.forall_fin_succ, Fin.forall_fin_succ, Fin.forall_fin_succ]
  simp [Fin.forall_fin_zero_pi, S1x64x512]; omega
theorem loR_set : loR.set = loSet := by
  ext i; have := bd8 i
  rw [Rect.mem_set_unit, mem_loSet, Fin.forall_fin_succ, Fin.forall_fin_succ, Fin.forall_fin_succ]
  simp [Fin.forall_fin_zero_pi, S4x64x2048]; omega
theorem hiR_set : hiR.set = hiSet := by
  ext i; have := bd8 i
  rw [Rect.mem_set_unit, mem_hiSet, Fin.forall_fin_succ, Fin.forall_fin_succ, Fin.forall_fin_succ]
  simp [Fin.forall_fin_zero_pi, S4x64x2048]; omega
theorem rl0R_set : rl0R.set = rlSet 0 := by
  ext i; have := bd3 i
  rw [Rect.mem_set_unit, mem_rlSet, Fin.forall_fin_succ, Fin.forall_fin_succ, Fin.forall_fin_succ]
  simp [Fin.forall_fin_zero_pi, S1x64x768]; omega
theorem rl1R_set : rl1R.set = rlSet 1 := by
  ext i; have := bd3 i
  rw [Rect.mem_set_unit, mem_rlSet, Fin.forall_fin_succ, Fin.forall_fin_succ, Fin.forall_fin_succ]
  simp [Fin.forall_fin_zero_pi, S1x64x768]; omega
theorem rl2R_set : rl2R.set = rlSet 2 := by
  ext i; have := bd3 i
  rw [Rect.mem_set_unit, mem_rlSet, Fin.forall_fin_succ, Fin.forall_fin_succ, Fin.forall_fin_succ]
  simp [Fin.forall_fin_zero_pi, S1x64x512]; omega

/-! ## The slices the transfers name -/

/-- Slot `p` of the product buffer, of the receive buffer; a column group of a product slot; a relay slot. -/
abbrev pcSlot (p : Dev nD) : Memref sig .tc .vmem S64x2048 .bf16 := (pcM.slice (slotR p) (fun _ => rfl)).squeeze S64x2048 squeezes_S1x64x2048_S64x2048
abbrev rvSlot (p : Dev nD) : Memref sig .tc .vmem S64x2048 .bf16 := (rvM.slice (slotR p) (fun _ => rfl)).squeeze S64x2048 squeezes_S1x64x2048_S64x2048
abbrev pcCol0 (p : Dev nD) : Memref sig .tc .vmem S64x768 .bf16 := (pcM.slice (col0R p) (fun _ => rfl)).squeeze S64x768 squeezes_S1x64x768_S64x768
abbrev pcCol1 (p : Dev nD) : Memref sig .tc .vmem S64x768 .bf16 := (pcM.slice (col1R p) (fun _ => rfl)).squeeze S64x768 squeezes_S1x64x768_S64x768
abbrev pcCol2 (p : Dev nD) : Memref sig .tc .vmem S64x512 .bf16 := (pcM.slice (col2R p) (fun _ => rfl)).squeeze S64x512 squeezes_S1x64x512_S64x512
abbrev rlSlot0 : Memref sig .tc .vmem S64x768 .bf16 := (rlM.slice rl0R (fun _ => rfl)).squeeze S64x768 squeezes_S1x64x768_S64x768
abbrev rlSlot1 : Memref sig .tc .vmem S64x768 .bf16 := (rlM.slice rl1R (fun _ => rfl)).squeeze S64x768 squeezes_S1x64x768_S64x768
abbrev rlSlot2 : Memref sig .tc .vmem S64x512 .bf16 := (rlM.slice rl2R (fun _ => rfl)).squeeze S64x512 squeezes_S1x64x512_S64x512

/-- A slice of a whole buffer, squeezed, covers its rectangle. -/
theorem set_of_slice {b : Ref sig .tc} {s' : Shape} (r : Rect b.ty.shape) (h : s'.numel = r.shape.numel) :
    (((View.whole b).slice r).reshape s' h).set = r.set := by
  rw [View.set_reshape, View.set_slice_whole]

theorem pcSlot_set (p : Dev nD) : (pcSlot p).view.set = slotSet p := (set_of_slice _ _).trans (slotR_set p)
theorem rvSlot_set (p : Dev nD) : (rvSlot p).view.set = slotSet p := (set_of_slice _ _).trans (slotR_set p)
theorem pcCol0_set (p : Dev nD) : (pcCol0 p).view.set = colSet p 0 := (set_of_slice _ _).trans (col0R_set p)
theorem pcCol1_set (p : Dev nD) : (pcCol1 p).view.set = colSet p 1 := (set_of_slice _ _).trans (col1R_set p)
theorem pcCol2_set (p : Dev nD) : (pcCol2 p).view.set = colSet p 2 := (set_of_slice _ _).trans (col2R_set p)
theorem rlSlot0_set : rlSlot0.view.set = rlSet 0 := (set_of_slice _ _).trans rl0R_set
theorem rlSlot1_set : rlSlot1.view.set = rlSet 1 := (set_of_slice _ _).trans rl1R_set
theorem rlSlot2_set : rlSlot2.view.set = rlSet 2 := (set_of_slice _ _).trans rl2R_set

/-! ## What the buffers come to hold -/

variable (m : (ℓ : Loc nD τ sig) → Buf (Elt F) ℓ)

/-- Contents of an eight-slot buffer; of the relay buffer. -/
abbrev C8 (F : FTy → Type) : Type := (cc0_scratch0 : Ref sig .tc).ty.Contents (Elt F)
abbrev C3 (F : FTy → Type) : Type := (cc0_scratch2 : Ref sig .tc).ty.Contents (Elt F)

/-- Device `c`'s blocks of the two arguments, as its body finds them. -/
def xs (c : Dev nD) : (cc0_stg0_0 : Ref sig .tc).ty.Contents (Elt F) :=
  (win0_0.blk (0 : Fin 1)).view.read (Elt F) (m ((c : Thread nD τ).loc main_arg0))
def dys (c : Dev nD) : (cc0_stg1_0 : Ref sig .tc).ty.Contents (Elt F) :=
  (win0_1.blk (0 : Fin 1)).view.read (Elt F) (m ((c : Thread nD τ).loc main_arg1))

/-- Contents no one reads, underneath what is written. -/
def base8 (c : Dev nD) : C8 F := m ((c : Thread nD τ).loc cc0_scratch0)
def base3 (c : Dev nD) : C3 F := m ((c : Thread nD τ).loc cc0_scratch2)

/-- The product buffer of device `c` once both halves are computed. -/
def PC (c : Dev nD) : C8 F :=
  (pcM.access hiR).write (Elt F) ((pcM.access loR).write (Elt F) (base8 m c) (k0_pay3 (xs m c) (dys m c)) Finset.univ)
    (k0_pay4 (k0_pay1 (xs m c)) (k0_pay2 (dys m c))) Finset.univ

/-- The relay slots of device `c` once what is to be passed on has arrived: in slot `d`, column group `d` of what the
    neighbour at relation `rel d` computed for the device farthest from it. -/
def RL0 (c : Dev nD) : C3 F := rlSlot0.view.write (Elt F) (base3 m c) ((pcCol0 (far (peer c 1))).view.read (Elt F) (PC m (peer c 1))) Finset.univ
def RL1 (c : Dev nD) : C3 F := rlSlot1.view.write (Elt F) (base3 m c) ((pcCol1 (far (peer c 2))).view.read (Elt F) (PC m (peer c 2))) Finset.univ
def RL2 (c : Dev nD) : C3 F := rlSlot2.view.write (Elt F) (base3 m c) ((pcCol2 (far (peer c 4))).view.read (Elt F) (PC m (peer c 4))) Finset.univ
def RL (d : Fin 3) : Dev nD → C3 F := match d with | 0 => RL0 m | 1 => RL1 m | 2 => RL2 m

/-- The product buffer of device `c` once what came for passing on is added to the slots it is passed on in. -/
def PCa (c : Dev nD) : C8 F :=
  (pcM.access (col0R (peer c 6))).write (Elt F) (PC m c)
    (k0_pay7 ((pcM.access (col0R (peer c 6))).read (Elt F) (PC m c)) ((rlM.access rl0R).read (Elt F) (RL0 m c))) Finset.univ
def PCb (c : Dev nD) : C8 F :=
  (pcM.access (col1R (peer c 5))).write (Elt F) (PC m c)
    (k0_pay9 (k0_pay8 ((pcM.access (col1R (peer c 5))).read (Elt F) (PC m c)) ((rlM.access rl1R).read (Elt F) (RL1 m c)))) Finset.univ
def PCc (c : Dev nD) : C8 F :=
  (pcM.access (col2R (peer c 3))).write (Elt F) (PC m c)
    (k0_pay10 ((pcM.access (col2R (peer c 3))).read (Elt F) (PC m c)) ((rlM.access rl2R).read (Elt F) (RL2 m c))) Finset.univ
def PC2 (c : Dev nD) : C8 F := fun i =>
  if i ∈ slotSet (peer c 6) then PCa m c i else if i ∈ slotSet (peer c 5) then PCb m c i
    else if i ∈ slotSet (peer c 3) then PCc m c i else PC m c i

/-- The receive buffer of device `c` at the end: zeros in the farthest device's slot, its own product in its own, and in
    every other device's slot what that device holds for `c`. -/
def RC (c : Dev nD) : C8 F := fun i =>
  if i ∈ slotSet (far c) then (rvM.access (slotR (far c))).write (Elt F) (base8 m c) k0_pay5 Finset.univ i
  else if i ∈ slotSet c then
    (rvM.access (slotR c)).write (Elt F) (base8 m c) (k0_pay6 ((pcM.access (slotR c)).read (Elt F) (PC m c))) Finset.univ i
  else PC2 m (i 0) (setSlot i c)

/-- The result block of device `c`. -/
def outAt (c : Dev nD) : (cc0_stg2_0 : Ref sig .tc).ty.Contents (Elt F) := k0_pay11 (RC m c)

/-! ## Reading and rewriting agree with those contents on the parts concerned -/

/-- A write over everything a view covers does not depend on what was there before, at an index the view covers. -/
theorem write_indep {κ : Kind} {sp : Space} {s : Shape} {e : EltTy} (v : View sig κ sp s e) (f g : v.ty.Contents (Elt F))
    (w : s.Idx → Elt F e) {i : v.ty.Idx} (h : i ∈ v.set) : v.write (Elt F) f w Finset.univ i = v.write (Elt F) g w Finset.univ i :=
  View.write_congr (fun _ _ _ => rfl) (fun hn => absurd h hn)

theorem access_set8 (b : Ref sig .tc) (r : Rect b.ty.shape) : ((Memref.whole b).access r).set = r.set := View.set_slice_whole b r

theorem slot_ne {p q : Dev nD} (h : p ≠ q) {i : S8x64x2048.Idx} (hi : i ∈ slotSet p) : i ∉ slotSet q :=
  fun hq => h (Fin.ext ((mem_slotSet.1 hi).symm.trans (mem_slotSet.1 hq)))

theorem col_slot {p : Dev nD} {d : Fin 3} : colSet p d ⊆ slotSet p := fun i hi => mem_slotSet.2 (mem_colSet.1 hi).1

/-- After the first store the lower half holds the products. -/
theorem PC_lo (c : Dev nD) (f : C8 F) : ∀ i ∈ loSet,
    (pcM.access loR).write (Elt F) f (k0_pay3 (xs m c) (dys m c)) Finset.univ i = PC m c i := fun i hi => by
  unfold PC
  rw [View.write_of_not_mem (v := pcM.access hiR) _ _ _ (i := i) (by
    show i ∉ (pcM.access hiR).set
    rw [access_set8, hiR_set]; exact fun h => mem_hiSet.1 h (mem_loSet.1 hi))]
  exact write_indep (pcM.access loR) _ _ _ (by rw [access_set8, loR_set]; exact hi)
/-- After the second store the upper half does. -/
theorem PC_hi (c : Dev nD) (f : C8 F) : ∀ i ∈ hiSet,
    (pcM.access hiR).write (Elt F) f (k0_pay4 (k0_pay1 (xs m c)) (k0_pay2 (dys m c))) Finset.univ i = PC m c i := fun i hi =>
  write_indep (pcM.access hiR) _ _ _ (by rw [access_set8, hiR_set]; exact hi)

/-- Outside the three slots passed on, the products stay as they were. -/
theorem PC2_of (c : Dev nD) (o : Fin 8) (h6 : o ≠ 6) (h5 : o ≠ 5) (h3 : o ≠ 3) : ∀ i ∈ slotSet (peer c o), PC2 m c i = PC m c i := fun i hi => by
  unfold PC2
  rw [if_neg (slot_ne (fun e => h6 (peer_inj c e)) hi), if_neg (slot_ne (fun e => h5 (peer_inj c e)) hi),
    if_neg (slot_ne (fun e => h3 (peer_inj c e)) hi)]
theorem PC2_6 (c : Dev nD) : ∀ i ∈ slotSet (peer c 6), PC2 m c i = PCa m c i := fun i hi => if_pos hi
theorem PC2_5 (c : Dev nD) : ∀ i ∈ slotSet (peer c 5), PC2 m c i = PCb m c i := fun i hi => by
  unfold PC2; rw [if_neg (slot_ne (fun e => absurd (peer_inj c e) (by decide)) hi), if_pos hi]
theorem PC2_3 (c : Dev nD) : ∀ i ∈ slotSet (peer c 3), PC2 m c i = PCc m c i := fun i hi => by
  unfold PC2
  rw [if_neg (slot_ne (fun e => absurd (peer_inj c e) (by decide)) hi), if_neg (slot_ne (fun e => absurd (peer_inj c e) (by decide)) hi), if_pos hi]

/-- The relay landings. -/
theorem RL0_landed (c p : Dev nD) (hp : p = peer c 1) (f : C3 F) (g : C8 F) (hg : ∀ i ∈ colSet (far p) 0, g i = PC m p i) : ∀ i ∈ rlSet 0,
    rlSlot0.view.write (Elt F) f ((pcCol0 (far p)).view.read (Elt F) g) Finset.univ i = RL m 0 c i := fun i hi => by
  subst hp
  rw [show (pcCol0 (far (peer c 1))).view.read (Elt F) g = (pcCol0 (far (peer c 1))).view.read (Elt F) (PC m (peer c 1)) from
    View.read_congr fun i hi => hg i (by rw [← pcCol0_set]; exact hi)]
  exact write_indep rlSlot0.view _ _ _ (by rw [rlSlot0_set]; exact hi)
theorem RL1_landed (c p : Dev nD) (hp : p = peer c 2) (f : C3 F) (g : C8 F) (hg : ∀ i ∈ colSet (far p) 1, g i = PC m p i) : ∀ i ∈ rlSet 1,
    rlSlot1.view.write (Elt F) f ((pcCol1 (far p)).view.read (Elt F) g) Finset.univ i = RL m 1 c i := fun i hi => by
  subst hp
  rw [show (pcCol1 (far (peer c 2))).view.read (Elt F) g = (pcCol1 (far (peer c 2))).view.read (Elt F) (PC m (peer c 2)) from
    View.read_congr fun i hi => hg i (by rw [← pcCol1_set]; exact hi)]
  exact write_indep rlSlot1.view _ _ _ (by rw [rlSlot1_set]; exact hi)
theorem RL2_landed (c p : Dev nD) (hp : p = peer c 4) (f : C3 F) (g : C8 F) (hg : ∀ i ∈ colSet (far p) 2, g i = PC m p i) : ∀ i ∈ rlSet 2,
    rlSlot2.view.write (Elt F) f ((pcCol2 (far p)).view.read (Elt F) g) Finset.univ i = RL m 2 c i := fun i hi => by
  subst hp
  rw [show (pcCol2 (far (peer c 4))).view.read (Elt F) g = (pcCol2 (far (peer c 4))).view.read (Elt F) (PC m (peer c 4)) from
    View.read_congr fun i hi => hg i (by rw [← pcCol2_set]; exact hi)]
  exact write_indep rlSlot2.view _ _ _ (by rw [rlSlot2_set]; exact hi)

/-- Where the slices of two slots put one index of theirs: the same place but for the slot. -/
theorem slot_emb (p q : Dev nD) (x : S64x2048.Idx) : (pcSlot q).view.emb x = setSlot ((rvSlot p).view.emb x : S8x64x2048.Idx) q := by
  have key : ∀ (y : S1x64x2048.Idx), (slotR q).emb y = setSlot ((slotR p).emb y : S8x64x2048.Idx) q := fun y => by
    have hy : (y 0).val = 0 := by have := (y 0).isLt; exact Nat.lt_one_iff.1 this
    funext (a : Fin 3)
    refine Fin.ext ?_
    match a with
    | 0 => rw [Rect.emb_apply]; show q.val + 1 * (y 0).val = q.val; rw [hy]; omega
    | 1 => show _ = ((slotR p).emb y 1).val; rw [Rect.emb_apply, Rect.emb_apply]; rfl
    | 2 => show _ = ((slotR p).emb y 2).val; rw [Rect.emb_apply, Rect.emb_apply]; rfl
  exact key _

/-- The landing of device `p`'s slot for `c` in device `c`'s slot for `p`. -/
theorem RC_landed (c : Dev nD) (o : Fin 8) (h0 : o ≠ 0) (h7 : o ≠ 7) (f g : C8 F) (hg : ∀ i ∈ slotSet c, g i = PC2 m (peer c o) i) :
    ∀ i ∈ slotSet (peer c o), (rvSlot (peer c o)).view.write (Elt F) f ((pcSlot c).view.read (Elt F) g) Finset.univ i = RC m c i := fun i hi => by
  have hmem : i ∈ (rvSlot (peer c o)).view.set := by rw [rvSlot_set]; exact hi
  unfold RC
  rw [if_neg (slot_ne (peer_ne_far c h7) hi), if_neg (slot_ne (peer_ne c h0) hi)]
  obtain ⟨x, -, rfl⟩ := Finset.mem_map.1 hmem
  rw [View.write_emb_of_mem _ _ (Finset.mem_univ x), View.read_apply]
  have h1 : ((rvSlot (peer c o)).view.emb x : S8x64x2048.Idx) 0 = peer c o := Fin.ext (mem_slotSet.1 hi)
  have h2 : (pcSlot c).view.emb x ∈ slotSet c := by rw [← pcSlot_set]; exact Finset.mem_map_of_mem _ (Finset.mem_univ x)
  show g ((pcSlot c).view.emb x) = _
  rw [hg _ h2, slot_emb (peer c o) c x]
  exact congrArg (fun d : Dev nD => PC2 m d (setSlot ((rvSlot (peer c o)).view.emb x : S8x64x2048.Idx) c)) h1.symm

theorem RC_far (c : Dev nD) (f : C8 F) : ∀ i ∈ slotSet (far c), (rvM.access (slotR (far c))).write (Elt F) f k0_pay5 Finset.univ i = RC m c i := fun i hi => by
  unfold RC; rw [if_pos hi]
  exact write_indep (rvM.access (slotR (far c))) _ _ _ (by rw [access_set8, slotR_set]; exact hi)
theorem RC_own (c : Dev nD) (f g : C8 F) (hg : ∀ i ∈ slotSet c, g i = PC m c i) : ∀ i ∈ slotSet c,
    (rvM.access (slotR c)).write (Elt F) f (k0_pay6 ((pcM.access (slotR c)).read (Elt F) g)) Finset.univ i = RC m c i := fun i hi => by
  unfold RC
  rw [if_neg (slot_ne (peer_ne c (o := 7) (by decide)).symm hi), if_pos hi,
    show (pcM.access (slotR c)).read (Elt F) g = (pcM.access (slotR c)).read (Elt F) (PC m c) from
      View.read_congr fun i hi => hg i (by rw [← slotR_set, ← access_set8 cc0_scratch0]; exact hi)]
  exact write_indep (rvM.access (slotR c)) _ _ _ (by rw [access_set8, slotR_set]; exact hi)

end Cert.KernelProof

end
-- ==== Proof.Schedule.lean ====
/-
# The exchange of device blocks: the protocol

Every semaphore cell of the exchange is used for one round. A device's barrier cell is raised once by each of the seven
other devices, and each of them hands over with its signal the parts of its own receive and relay buffers the signalled
device will write. A transfer's completion at its destination hands over the part written, holding what was sent;
its completion at its source hands back the part read. This module states that as a schedule of duties over the cells,
with what every device owes when it starts and the order in which waiting is safe.
-/
module

public import proofs.«01_k».proof.Proof.Contents

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, whose duties are named by relations -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The semaphores and cells -/

/-- The runtime's barrier semaphore; the kernel's send, receive, relay-send and relay-receive semaphores. -/
abbrev barS : Sem sig := (SemArray.scalar (sig.barrier 0 rfl) : Sems sig S_).sem
abbrev sndS (p : Dev nD) : DmaSem sig := (⟨3 + p.val, by have h : p.val < 8 := p.isLt; omega⟩ : Fin 25)
abbrev rcvS (p : Dev nD) : DmaSem sig := (⟨11 + p.val, by have h : p.val < 8 := p.isLt; omega⟩ : Fin 25)
abbrev rsS (d : Fin 3) : DmaSem sig := (⟨19 + d.val, by have := d.isLt; omega⟩ : Fin 25)
abbrev rrS (d : Fin 3) : DmaSem sig := (⟨22 + d.val, by have := d.isLt; omega⟩ : Fin 25)

abbrev barCell (c : Dev nD) : GSem nD τ sig := ((c : Thread nD τ), .reg barS)
abbrev dmaCell (c : Dev nD) (s : DmaSem sig) : GSem nD τ sig := ((c : Thread nD τ), .dma s)

theorem snd_sem (p : Dev nD) (off : Fin 1 → ℕ) (h : off = ![p.val]) (inb) (sq) :
    ((cc0_scratch3.slice (Rect.unit (s := S8) off S1.size inb)).squeeze S_ sq).sem = sndS p := by
  subst h; revert p inb; decide +kernel
theorem rcv_sem (p : Dev nD) (off : Fin 1 → ℕ) (h : off = ![p.val]) (inb) (sq) :
    ((cc0_scratch4.slice (Rect.unit (s := S8) off S1.size inb)).squeeze S_ sq).sem = rcvS p := by
  subst h; revert p inb; decide +kernel
theorem rs_sem (d : Fin 3) (off : Fin 1 → ℕ) (h : off = ![d.val]) (inb) (sq) :
    ((cc0_scratch5.slice (Rect.unit (s := S3) off S1.size inb)).squeeze S_ sq).sem = rsS d := by
  subst h; revert d inb; decide +kernel
theorem rr_sem (d : Fin 3) (off : Fin 1 → ℕ) (h : off = ![d.val]) (inb) (sq) :
    ((cc0_scratch6.slice (Rect.unit (s := S3) off S1.size inb)).squeeze S_ sq).sem = rrS d := by
  subst h; revert d inb; decide +kernel

/-- The kernel's own semaphores, as the launch lists them; all of the exchange's, the barrier first. -/
abbrev osem : Fin 22 → SemLoc sig := fun k => .dma (⟨k.val + 3, by have := k.isLt; omega⟩ : Fin 25)
abbrev csem : Option (Fin 22) → SemLoc sig := fun | none => .reg barS | some k => osem k
abbrev kcell (ck : Dev nD × Option (Fin 22)) : GSem nD τ sig := ((ck.1 : Thread nD τ), csem ck.2)

theorem dmaCell_eq (c : Dev nD) (s : DmaSem sig) (hs : 3 ≤ (s : Fin 25).val) : ∃ k, dmaCell c s = kcell (c, some k) :=
  ⟨⟨(s : Fin 25).val - 3, by have h : (s : Fin 25).val < 25 := (s : Fin 25).isLt; omega⟩, by
    refine Prod.ext rfl (congrArg SemLoc.dma (Fin.ext ?_))
    show (s : Fin 25).val = (s : Fin 25).val - 3 + 3
    omega⟩

/-! ## The amounts -/

abbrev N : ℕ := (rvSlot 0).view.dmaCredit
abbrev N7 : ℕ := rlSlot0.view.dmaCredit
abbrev N5 : ℕ := rlSlot2.view.dmaCredit
def Nr (d : Fin 3) : ℕ := if d = 2 then N5 else N7

theorem N_pos : 0 < N := View.dmaCredit_pos _ (by decide)
theorem N7_pos : 0 < N7 := View.dmaCredit_pos _ (by decide)
theorem N5_pos : 0 < N5 := View.dmaCredit_pos _ (by decide)
theorem Nr_pos (d : Fin 3) : 0 < Nr d := by unfold Nr; split; exacts [N5_pos, N7_pos]

/-! ## Parts of the buffers -/

def pcS (c : Dev nD) (A : Finset S8x64x2048.Idx) (f : C8 F) : sProp 𝕄 := ((c : Thread nD τ).loc cc0_scratch0) ↦[A]{fullShare} f
def rvS (c : Dev nD) (A : Finset S8x64x2048.Idx) (f : C8 F) : sProp 𝕄 := ((c : Thread nD τ).loc cc0_scratch1) ↦[A]{fullShare} f
def rlS (c : Dev nD) (A : Finset S3x64x768.Idx) (f : C3 F) : sProp 𝕄 := ((c : Thread nD τ).loc cc0_scratch2) ↦[A]{fullShare} f

omit [FloatOps F] in
instance pcS_storable (c : Dev nD) (A) (f) : BI.Storable (upEmb : UEmb _ 𝕄) (pcS (F := F) c A f) := by unfold pcS; infer_instance
omit [FloatOps F] in
instance rvS_storable (c : Dev nD) (A) (f) : BI.Storable (upEmb : UEmb _ 𝕄) (rvS (F := F) c A f) := by unfold rvS; infer_instance
omit [FloatOps F] in
instance rlS_storable (c : Dev nD) (A) (f) : BI.Storable (upEmb : UEmb _ 𝕄) (rlS (F := F) c A f) := by unfold rlS; infer_instance

omit [FloatOps F] in
theorem pcS_congr {c : Dev nD} {A} {f g : C8 F} (h : ∀ i ∈ A, f i = g i) : (pcS c A f : sProp 𝕄) = pcS c A g := pointsTo_congr h
omit [FloatOps F] in
theorem rvS_congr {c : Dev nD} {A} {f g : C8 F} (h : ∀ i ∈ A, f i = g i) : (rvS c A f : sProp 𝕄) = rvS c A g := pointsTo_congr h
omit [FloatOps F] in
theorem rlS_congr {c : Dev nD} {A} {f g : C3 F} (h : ∀ i ∈ A, f i = g i) : (rlS c A f : sProp 𝕄) = rlS c A g := pointsTo_congr h

/-! ## The schedule -/

/-- What the neighbour at relation `o` hands device `c` with its barrier signal: its own receive slot for `c`, and the
    relay slot `c` relays into. -/
def barPay (c : Dev nD) : Fin 8 → sProp 𝕄
  | 0 => iprop(emp)
  | 1 => iprop((∃ f, rvS (peer c 1) (slotSet c) f) ∗ (∃ f, rlS (peer c 1) (rlSet 0) f))
  | 2 => iprop((∃ f, rvS (peer c 2) (slotSet c) f) ∗ (∃ f, rlS (peer c 2) (rlSet 1) f))
  | 3 => iprop(∃ f, rvS (peer c 3) (slotSet c) f)
  | 4 => iprop((∃ f, rvS (peer c 4) (slotSet c) f) ∗ (∃ f, rlS (peer c 4) (rlSet 2) f))
  | 5 => iprop(∃ f, rvS (peer c 5) (slotSet c) f)
  | 6 => iprop(∃ f, rvS (peer c 6) (slotSet c) f)
  | 7 => iprop(emp)

def sndPay (c p : Dev nD) : sProp 𝕄 := pcS c (slotSet p) (PC2 m c)
def rcvPay (c p : Dev nD) : sProp 𝕄 := rvS c (slotSet p) (RC m c)
def rsPay (c : Dev nD) (d : Fin 3) : sProp 𝕄 := pcS c (colSet (far c) d) (PC2 m c)
def rrPay (c : Dev nD) (d : Fin 3) : sProp 𝕄 := rlS c (rlSet d) (RL m d c)

/-- What the completion on DMA semaphore `n` of device `c` hands over. -/
def dmaPay (c : Dev nD) (n : ℕ) : sProp 𝕄 :=
  if n < 11 then sndPay m c ⟨(n - 3) % 8, Nat.mod_lt _ (by decide)⟩
  else if n < 19 then rcvPay m c ⟨(n - 11) % 8, Nat.mod_lt _ (by decide)⟩
  else if n < 22 then rsPay m c ⟨(n - 19) % 3, Nat.mod_lt _ (by decide)⟩
  else rrPay m c ⟨(n - 22) % 3, Nat.mod_lt _ (by decide)⟩

instance dmaPay_storable (c : Dev nD) (n : ℕ) : BI.Storable (upEmb : UEmb _ 𝕄) (dmaPay m c n) := by
  unfold dmaPay sndPay rcvPay rsPay rrPay; (repeat' split) <;> infer_instance
omit [FloatOps F] in
instance barPay_storable (c : Dev nD) (d : Fin 8) : BI.Storable (upEmb : UEmb _ 𝕄) (barPay (F := F) c d) := by
  unfold barPay; split <;> infer_instance

/-- Which DMA semaphores a device uses: all the relays', and of the slots' those of a device neither itself nor farthest. -/
def used (c : Dev nD) (n : ℕ) : Prop :=
  19 ≤ n ∨ (3 ≤ n ∧ n < 11 ∧ n ≠ 3 + c.val ∧ n ≠ 3 + (far c).val) ∨ (11 ≤ n ∧ n < 19 ∧ n ≠ 11 + c.val ∧ n ≠ 11 + (far c).val)
instance (c : Dev nD) (n : ℕ) : Decidable (used c n) := by unfold used; infer_instance

def others : Finset (Fin 8) := {1, 2, 3, 4, 5, 6, 7}

def Rd : Rounds.Schedule (GSem nD τ sig) (Fin 8) 𝕄 where
  duties g r := if r = 0 ∧ g.1.2 = .tc then
      (match g.2 with
        | .reg s => if s = barS then others else ∅
        | .dma s => if used g.1.1 (s : Fin 25).val then {0} else ∅)
    else ∅
  unitless _ := False
  amount g _ _ := match g.2 with
    | .reg _ => 1
    | .dma s => if (s : Fin 25).val < 19 then N else if (s : Fin 25).val = 21 ∨ (s : Fin 25).val = 24 then N5 else N7
  payload g _ d := match g.2 with
    | .reg _ => barPay g.1.1 d
    | .dma s => dmaPay m g.1.1 (s : Fin 25).val
  amount_pos g _ _ _ := by
    split
    · exact Nat.one_pos
    · split
      · exact N_pos
      · split; exacts [N5_pos, N7_pos]

instance Rd_payload_storable (g : GSem nD τ sig) (r : ℕ) (d : Fin 8) :
    BI.Storable (upEmb : UEmb _ 𝕄) ((Rd (F := F) m).payload g r d) := by
  show BI.Storable upEmb (match g.2 with | .reg _ => barPay g.1.1 d | .dma s => dmaPay m g.1.1 (s : Fin 25).val)
  split <;> infer_instance

section Sched
variable (c : Dev nD)

theorem duties_later (g : GSem nD τ sig) : ∀ r, 1 ≤ r → (Rd (F := F) m).duties g r = ∅ :=
  fun r hr => by dsimp only [Rd]; rw [if_neg fun h => by omega]
theorem duties_bar : (Rd (F := F) m).duties (barCell c) 0 = others := by dsimp only [Rd]; rw [if_pos ⟨rfl, rfl⟩]; exact if_pos rfl
theorem duties_dma (s : DmaSem sig) (h : used c (s : Fin 25).val) : (Rd (F := F) m).duties (dmaCell c s) 0 = {0} := by
  dsimp only [Rd]; rw [if_pos ⟨rfl, rfl⟩]; exact if_pos h
theorem duties_unused (s : DmaSem sig) (h : ¬ used c (s : Fin 25).val) : ∀ r, 0 ≤ r → (Rd (F := F) m).duties (dmaCell c s) r = ∅ := fun r _ => by
  dsimp only [Rd]
  by_cases hr : r = 0
  · rw [if_pos ⟨hr, rfl⟩]; exact if_neg h
  · rw [if_neg fun e => hr e.1]

theorem used_rs (d : Fin 3) : used c (rsS d).val := .inl (Nat.le_add_right _ _)
theorem used_rr (d : Fin 3) : used c (rrS d).val := .inl (by show 19 ≤ 22 + d.val; omega)
theorem used_snd {o : Fin 8} (h0 : o ≠ 0) (h7 : o ≠ 7) : used c (sndS (peer c o)).val := by revert c o; decide +kernel
theorem used_rcv {o : Fin 8} (h0 : o ≠ 0) (h7 : o ≠ 7) : used c (rcvS (peer c o)).val := by revert c o; decide +kernel
theorem used_rcv' {o : Fin 8} (h0 : o ≠ 0) (h7 : o ≠ 7) : used (peer c o) (rcvS c).val := by revert c o; decide +kernel
theorem unused_own : ¬ used c (sndS (peer c 0)).val ∧ ¬ used c (rcvS (peer c 0)).val := by revert c; decide +kernel
theorem unused_far : ¬ used c (sndS (far c)).val ∧ ¬ used c (rcvS (far c)).val := by revert c; decide +kernel

theorem amount_snd (p : Dev nD) (d : Fin 8) : (Rd (F := F) m).amount (dmaCell c (sndS p)) 0 d = N := by
  dsimp only [Rd]; exact if_pos (by have h : p.val < 8 := p.isLt; show 3 + p.val < 19; omega)
theorem amount_rcv (p : Dev nD) (d : Fin 8) : (Rd (F := F) m).amount (dmaCell c (rcvS p)) 0 d = N := by
  dsimp only [Rd]; exact if_pos (by have h : p.val < 8 := p.isLt; show 11 + p.val < 19; omega)
theorem amount_rs (k : Fin 3) (d : Fin 8) : (Rd (F := F) m).amount (dmaCell c (rsS k)) 0 d = Nr k := by
  dsimp only [Rd]; rw [if_neg (by show ¬ 19 + k.val < 19; omega)]; unfold Nr
  exact if_congr (by show (19 + k.val = 21 ∨ 19 + k.val = 24) ↔ k = 2; rw [Fin.ext_iff]; show _ ↔ k.val = 2; omega) rfl rfl
theorem amount_rr (k : Fin 3) (d : Fin 8) : (Rd (F := F) m).amount (dmaCell c (rrS k)) 0 d = Nr k := by
  dsimp only [Rd]; rw [if_neg (by show ¬ 22 + k.val < 19; omega)]; unfold Nr
  exact if_congr (by show (22 + k.val = 21 ∨ 22 + k.val = 24) ↔ k = 2; rw [Fin.ext_iff]; show _ ↔ k.val = 2; omega) rfl rfl

theorem payload_bar (d : Fin 8) : (Rd (F := F) m).payload (barCell c) 0 d = barPay c d := rfl
theorem payload_snd (p : Dev nD) (d : Fin 8) : (Rd (F := F) m).payload (dmaCell c (sndS p)) 0 d = sndPay m c p := by
  have h : p.val < 8 := p.isLt
  show dmaPay m c (3 + p.val) = _
  unfold dmaPay; rw [if_pos (by omega)]
  exact congrArg (sndPay m c) (Fin.ext (by show (3 + p.val - 3) % 8 = p.val; omega))
theorem payload_rcv (p : Dev nD) (d : Fin 8) : (Rd (F := F) m).payload (dmaCell c (rcvS p)) 0 d = rcvPay m c p := by
  have h : p.val < 8 := p.isLt
  show dmaPay m c (11 + p.val) = _
  unfold dmaPay; rw [if_neg (by omega), if_pos (by omega)]
  exact congrArg (rcvPay m c) (Fin.ext (by show (11 + p.val - 11) % 8 = p.val; omega))
theorem payload_rs (k : Fin 3) (d : Fin 8) : (Rd (F := F) m).payload (dmaCell c (rsS k)) 0 d = rsPay m c k := by
  have h : k.val < 3 := k.isLt
  show dmaPay m c (19 + k.val) = _
  unfold dmaPay; rw [if_neg (by omega), if_neg (by omega), if_pos (by omega)]
  exact congrArg (rsPay m c) (Fin.ext (by show (19 + k.val - 19) % 3 = k.val; omega))
theorem payload_rr (k : Fin 3) (d : Fin 8) : (Rd (F := F) m).payload (dmaCell c (rrS k)) 0 d = rrPay m c k := by
  have h : k.val < 3 := k.isLt
  show dmaPay m c (22 + k.val) = _
  unfold dmaPay; rw [if_neg (by omega), if_neg (by omega), if_neg (by omega)]
  exact congrArg (rrPay m c) (Fin.ext (by show (22 + k.val - 22) % 3 = k.val; omega))

theorem expect_bar : (Rd (F := F) m).expect (barCell c) 0 = 7 := by
  unfold Schedule.expect Schedule.amountOf
  rw [duties_bar]; rfl
theorem expect_dma (s : DmaSem sig) (h : used c (s : Fin 25).val) (n : ℕ) (hn : (Rd (F := F) m).amount (dmaCell c s) 0 0 = n) :
    (Rd (F := F) m).expect (dmaCell c s) 0 = n := by
  unfold Schedule.expect Schedule.amountOf; rw [duties_dma m c s h, Finset.sum_singleton, hn]

theorem rest_dma (s : DmaSem sig) (h : used c (s : Fin 25).val) (P : sProp 𝕄) (hP : (Rd (F := F) m).payload (dmaCell c s) 0 0 = P) :
    bigSep ((Rd (F := F) m).duties (dmaCell c s) 0 \ ∅) (fun d => (Rd (F := F) m).payload (dmaCell c s) 0 d) = P := by
  rw [Finset.sdiff_empty, duties_dma m c s h, bigSep_singleton, hP]
theorem rest_bar : bigSep ((Rd (F := F) m).duties (barCell c) 0 \ ∅) (fun d => (Rd (F := F) m).payload (barCell c) 0 d)
    = iprop(barPay c 1 ∗ barPay c 2 ∗ barPay c 3 ∗ barPay c 4 ∗ barPay c 5 ∗ barPay c 6 ∗ barPay c 7) := by
  rw [Finset.sdiff_empty, duties_bar, bigSep_eq_bigSepL_of_eq [1, 2, 3, 4, 5, 6, 7] (by decide) (by decide)]
  rfl

end Sched

/-! ## What each device owes at launch -/

def bT (c : Dev nD) (o : Fin 8) : CellTallies nD τ sig Unit := tallyAt (barCell (peer c o)) () 1
def rT (c : Dev nD) (d : Fin 3) : CellTallies nD τ sig Unit := tallyAt (dmaCell (peer c (rel d)) (rrS d)) () (Nr d)
def vT (c : Dev nD) (o : Fin 8) : CellTallies nD τ sig Unit := tallyAt (dmaCell (peer c o) (rcvS c)) () N

/-- What is passed on; and everything sent; and the barrier's signals besides. -/
def Ov (c : Dev nD) : CellTallies nD τ sig Unit := vT c 3 + vT c 5 + vT c 6
def Os (c : Dev nD) : CellTallies nD τ sig Unit := Ov c + rT c 0 + rT c 1 + rT c 2 + vT c 1 + vT c 2 + vT c 4
def O₀ (c : Dev nD) : CellTallies nD τ sig Unit :=
  Os c + bT c 7 + bT c 6 + bT c 5 + bT c 4 + bT c 3 + bT c 2 + bT c 1

/-! ## The levels: barrier below relays below slots -/

def L (g : GSem nD τ sig) : Finset Unit := if g.1.2 = .tc then {()} else ∅
def lvs : SemLoc sig → ℕ
  | .reg _ => 1
  | .dma s => if (s : Fin 25).val < 11 then 0 else if (s : Fin 25).val < 19 then 3 else if (s : Fin 25).val < 22 then 0 else 2
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl

/-- Everything owed in `O` is on cells above level `n`. -/
def Above (n : ℕ) (O : CellTallies nD τ sig Unit) : Prop := ∀ g u, 0 < O g u → g.1.2 = .tc ∧ n < lvs g.2

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n k : ℕ} (c : Dev nD) (sm : SemLoc sig) (h : n < lvs sm) : Above n (tallyAt ((c : Thread nD τ), sm) () k) := fun g u hg => by
  rw [tallyAt_apply] at hg
  by_cases hh : g = ((c : Thread nD τ), sm) ∧ u = ()
  · rw [hh.1]; exact ⟨rfl, h⟩
  · rw [if_neg hh] at hg; exact absurd hg (Nat.lt_irrefl 0)

theorem lvs_rcv (p : Dev nD) : lvs (.dma (rcvS p)) = 3 := by
  have : p.val < 8 := p.isLt
  show (if 11 + p.val < 11 then 0 else if 11 + p.val < 19 then 3 else if 11 + p.val < 22 then 0 else 2) = 3
  rw [if_neg (by omega), if_pos (by omega)]
theorem lvs_rr (d : Fin 3) : lvs (.dma (rrS d)) = 2 := by
  have : d.val < 3 := d.isLt
  show (if 22 + d.val < 11 then 0 else if 22 + d.val < 19 then 3 else if 22 + d.val < 22 then 0 else 2) = 2
  rw [if_neg (by omega), if_neg (by omega), if_neg (by omega)]

theorem above_vT (c : Dev nD) (o : Fin 8) {n : ℕ} (h : n < 3) : Above n (vT c o) := above_tally _ _ (by rw [lvs_rcv]; exact h)
theorem above_rT (c : Dev nD) (d : Fin 3) {n : ℕ} (h : n < 2) : Above n (rT c d) := above_tally _ _ (by rw [lvs_rr]; exact h)
theorem above_bT (c : Dev nD) (o : Fin 8) {n : ℕ} (h : n < 1) : Above n (bT c o) := above_tally _ _ h
theorem above_Ov (c : Dev nD) {n : ℕ} (h : n < 3) : Above n (Ov c) := above_add (above_add (above_vT _ _ h) (above_vT _ _ h)) (above_vT _ _ h)
theorem above_Os (c : Dev nD) {n : ℕ} (h : n < 2) : Above n (Os c) := by
  have h3 : n < 3 := by omega
  unfold Os
  exact above_add (above_add (above_add (above_add (above_add (above_add (above_Ov c h3) (above_rT _ _ h)) (above_rT _ _ h)) (above_rT _ _ h))
    (above_vT _ _ h3)) (above_vT _ _ h3)) (above_vT _ _ h3)
theorem above_O₀ (c : Dev nD) : Above 0 (O₀ c) := by
  have h := fun o => above_bT c o (n := 0) (by decide)
  unfold O₀
  exact above_add (above_add (above_add (above_add (above_add (above_add (above_add (above_Os c (by decide)) (h _)) (h _)) (h _)) (h _)) (h _)) (h _)) (h _)

omit [FloatOps F] in
theorem mayWait (c : Dev nD) (sm : SemLoc sig) (O : CellTallies nD τ sig Unit) (h : Above (lvs sm) O) :
    (levAts L lv : sProp 𝕄) ⊢ MayWait (c : Thread nD τ) sm () O :=
  MayOwe.of_cut (L := L) (lev := lv) (lvs sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_rfl)
    (fun g u hg => (h g u hg).2)

end Cert.KernelProof

end
-- ==== Proof.Steps.lean ====
/-
# The exchange of device blocks: its steps

Each kind of step of the exchange, once: a barrier signal, the barrier wait, the wait on a transfer's semaphore, the
transfer of a slot and the relay of a column group. Every wait also takes its semaphore's counter back, as each cell is
used for one round only.
-/
module

public import proofs.«01_k».proof.Proof.Schedule

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells' invariants -/

/-- That a cell runs the schedule and has reached its first round. -/
def rec1 (g : GSem nD τ sig) : sProp 𝕄 := iprop(∃ κ, cellInv ER (Rd m) κ g ∗ reached ER g 0)
instance rec1_persistent (g : GSem nD τ sig) : BI.Persistent (rec1 (F := F) m g) := by unfold rec1; infer_instance

/-- The same of every cell of every device. -/
def recs : sProp 𝕄 := bigSep Finset.univ fun ck : Dev nD × Option (Fin 22) => rec1 m (kcell ck)
instance recs_persistent : BI.Persistent (recs (F := F) m) := by unfold recs; infer_instance

theorem recs_at (ck : Dev nD × Option (Fin 22)) : recs (F := F) m ⊢ rec1 m (kcell ck) := by
  unfold recs
  rw [bigSep_erase (Finset.mem_univ ck)]
  exact sep_elim_left
theorem recs_bar (c : Dev nD) : recs (F := F) m ⊢ rec1 m (barCell c) := recs_at m (c, none)
theorem recs_dma (c : Dev nD) (s : DmaSem sig) (h : 3 ≤ (s : Fin 25).val) : recs (F := F) m ⊢ rec1 m (dmaCell c s) := by
  obtain ⟨k, hk⟩ := dmaCell_eq c s h
  rw [hk]; exact recs_at m (c, some k)

/-- What a device owes, whatever it has waited for. -/
def ow (c : Dev nD) (O : CellTallies nD τ sig Unit) : sProp 𝕄 := iprop(∃ W, owes (c : Thread nD τ) O W)

section Steps
variable (c : Dev nD) {α : Type} {k : PUnit → Prog (TpuEff nD τ sig (Elt F) Λ₀ .tc) α}

/-! ## The barrier -/

/-- The barrier signal to the neighbour at relation `o`, handing over what that neighbour will write. -/
theorem wp_sig {Q : α → sProp 𝕄} (n : Dev nD) (o : Fin 8) (hn : n = peer c o) (ho : o ∈ others) {k' : ℕ} (hk : 1 = k') (O O' : CellTallies nD τ sig Unit)
    (hO : O' = O + bT c o) :
    iprop(recs m ∗ ow c O' ∗ dutyTok ER (barCell (peer c o)) 0 o ∗ barPay (peer c o) o)
      ⊢ iprop((ow c O -∗ wp frame (wpE (defs₀ (F := F)) 𝒱₀ (c : Thread nD τ) none) Set.univ (k ⟨⟩) Q) -∗ wp frame (wpE (defs₀ (F := F)) 𝒱₀ (c : Thread nD τ) none) Set.univ (.op (.semSignal (Dev.tc n : Thread nD τ) barS k') k) Q) := by
  subst hn hk
  unfold ow
  iintro ⟨#HR, ⟨%W, HO⟩, Ht, Hp⟩ Hk
  ihave #HI := (recs_bar m (peer c o)) $$ HR
  unfold rec1
  icases HI with ⟨%κ, #HI, #Hr⟩
  iapply (Rounds.wp_signal 𝒱₀ ER (Rd m) (c : Thread nD τ) none (dst := (peer c o : Thread nD τ)) (κ := κ)
      (d := o) (by rw [duties_bar]; exact ho) rfl () O hO) $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

/-- The barrier wait: what all seven neighbours hand over, and the barrier's counter back at zero. -/
theorem wp_barWait {Q : α → sProp 𝕄} {k' : ℕ} (hk : k' = 7) (O : CellTallies nD τ sig Unit) (hA : Above 1 O) :
    iprop(recs m ∗ levAts L lv ∗ cred (tallyAt (barCell c) () 7) ∗ ow c O ∗ atPos ER (barCell c) 0 ∅ 0)
      ⊢ iprop((ow c O ∗ semVal (barCell c) 0 ∗ barPay c 1 ∗ barPay c 2 ∗ barPay c 3 ∗ barPay c 4 ∗ barPay c 5 ∗ barPay c 6 ∗ barPay c 7 -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS k') k) Q) := by
  subst hk
  unfold ow
  iintro ⟨#HR, #Hlev, Hc, ⟨%W, HO⟩, Hat⟩ Hk
  ihave #HI := (recs_bar m c) $$ HR
  unfold rec1
  icases HI with ⟨%κ, #HI, -⟩
  iapply (Rounds.wp_wait_rest_token 𝒱₀ ER (Rd m) (c : Thread nD τ) none (κ := κ)
      (wpE_semWait_eq 𝒱₀ (c : Thread nD τ) none Set.univ) (Set.mem_univ _) () (O := O) (W := W) (R := 0) (m := 0) (T := ∅)
      (by rw [expect_bar])) $$ [Hc HO Hat]
  · isplitr; · iexact HI
    isplitl [Hc]; · iexact Hc
    isplitl [HO]; · iexact HO
    isplitr; · iapply (mayWait c (.reg barS) O hA); iexact Hlev
    iexact Hat
  iintro ⟨HO, Hat, -, Hpay⟩
  ihave Hp := (Entails.of_eq (rest_bar m c)) $$ Hpay
  imod (Rounds.cell_close ER (Rd m) (Set.mem_univ κ) (fun h => h) (R := 0 + 1) (duties_later m (barCell c))) $$ [Hat] with Hz
  · isplitr; · iexact HI
    iexact Hat
  iapply Hk
  isplitl [HO]; · iexists _; iexact HO
  isplitl [Hz]; · iexact Hz
  iexact Hp

/-! ## Waits on transfers -/

/-- The wait on DMA semaphore `s` for a transfer of `n`: what the transfer hands over, and the counter back at zero. -/
theorem wp_dmaWait {Q : α → sProp 𝕄} (s t : DmaSem sig) (hst : t = s) (h3 : 3 ≤ (s : Fin 25).val) (hu : used c (s : Fin 25).val)
    (n : ℕ) (hn : (Rd (F := F) m).amount (dmaCell c s) 0 0 = n) (P : sProp 𝕄) (hP : (Rd (F := F) m).payload (dmaCell c s) 0 0 = P)
    {ks kd : Space} {s₁ s₂ : Shape} {e₁ e₂ : EltTy} {src : Memref sig .tc ks s₁ e₁} {dst : Memref sig .tc kd s₂ e₂} {hs hd}
    (hcr : dst.view.dmaCredit = n)
    (O : CellTallies nD τ sig Unit) (hA : Above (lvs (.dma s)) O) :
    iprop(recs m ∗ levAts L lv ∗ cred (tallyAt (dmaCell c s) () n) ∗ ow c O ∗ atPos ER (dmaCell c s) 0 ∅ 0)
      ⊢ iprop((ow c O ∗ semVal (dmaCell c s) 0 ∗ P -∗ wp frame (wpE (defs₀ (F := F)) 𝒱₀ (c : Thread nD τ) none) Set.univ (k ⟨⟩) Q) -∗ wp frame (wpE (defs₀ (F := F)) 𝒱₀ (c : Thread nD τ) none) Set.univ (.op (.waitDma2 t src dst hs hd) k) Q) := by
  subst hst hcr
  unfold ow
  iintro ⟨#HR, #Hlev, Hc, ⟨%W, HO⟩, Hat⟩ Hk
  ihave #HI := (recs_dma m c t h3) $$ HR
  unfold rec1
  icases HI with ⟨%κ, #HI, -⟩
  iapply (Rounds.wp_wait_rest_token 𝒱₀ ER (Rd m) (c : Thread nD τ) none (κ := κ)
      (wpE_waitDma2_eq 𝒱₀ (c : Thread nD τ) none Set.univ) (Set.mem_univ _) () (O := O) (W := W) (R := 0) (m := 0) (T := ∅)
      (by rw [Nat.zero_add, expect_dma m c t hu _ hn])) $$ [Hc HO Hat]
  · isplitr; · iexact HI
    isplitl [Hc]; · iexact Hc
    isplitl [HO]; · iexact HO
    isplitr; · iapply (mayWait c (.dma t) O hA); iexact Hlev
    iexact Hat
  iintro ⟨HO, Hat, -, Hpay⟩
  ihave Hp := (Entails.of_eq (rest_dma m c t hu P hP)) $$ Hpay
  imod (Rounds.cell_close ER (Rd m) (Set.mem_univ κ) (fun h => h) (R := 0 + 1) (duties_later m (dmaCell c t))) $$ [Hat] with Hz
  · isplitr; · iexact HI
    iexact Hat
  iapply Hk
  isplitl [HO]; · iexists _; iexact HO
  isplitl [Hz]; · iexact Hz
  iexact Hp

/-- An unused semaphore's counter, back without a wait. -/
theorem close_unused (s : DmaSem sig) (h3 : 3 ≤ (s : Fin 25).val) (hu : ¬ used c (s : Fin 25).val) :
    iprop(recs m ∗ atPos ER (dmaCell c s) 0 ∅ 0) ⊢ iprop(|={Set.univ}=> semVal (dmaCell c s) 0) := by
  iintro ⟨#HR, Hat⟩
  ihave #HI := (recs_dma m c s h3) $$ HR
  unfold rec1
  icases HI with ⟨%κ, #HI, -⟩
  iapply (Rounds.cell_close ER (Rd m) (Set.mem_univ κ) (fun h => h) (R := 0) (duties_unused m c s hu)) $$ [Hat]
  isplitr; · iexact HI
  iexact Hat

/-! ## Transfers -/

/-- A transfer to device `p`, in general: its source and its destination given up, the send credit gained. -/
theorem wp_send {Q : α → sProp 𝕄} {s : Shape} (n p : Dev nD) (hn : n = p) (sS sR tS tR : DmaSem sig) (hS : sS = tS) (hR : sR = tR)
    (src dst src' dst' : Memref sig .tc .vmem s .bf16) (hsrc : src = src') (hdst : dst = dst')
    (h3S : 3 ≤ (tS : Fin 25).val) (h3R : 3 ≤ (tR : Fin 25).val) (huS : used c (tS : Fin 25).val) (huR : used p (tR : Fin 25).val)
    (Na : ℕ) (hN : dst'.view.dmaCredit = Na)
    (haS : (Rd (F := F) m).amount (dmaCell c tS) 0 0 = Na) (haR : (Rd (F := F) m).amount (dmaCell p tR) 0 0 = Na)
    (fs : Buf (Elt F) (src'.view.loc (c : Thread nD τ))) (fd : Buf (Elt F) (dst'.view.loc (p : Thread nD τ)))
    (hpS : (src'.view.loc (c : Thread nD τ) ↦[src'.view.set]{fullShare} fs) ⊢ (Rd (F := F) m).payload (dmaCell c tS) 0 0)
    (hpR : (dst'.view.loc (p : Thread nD τ) ↦[dst'.view.set]{fullShare} (dst'.view.write (Elt F) fd (src'.view.read (Elt F) fs) Finset.univ))
      ⊢ (Rd (F := F) m).payload (dmaCell p tR) 0 0)
    (O O' : CellTallies nD τ sig Unit) (hO : O' = O + tallyAt (dmaCell p tR) () Na)
    {hsc : (dst : Memref sig (Dev.tc n : Thread nD τ).2.kind .vmem s .bf16).view.ref.isScScratch = false}
    {hws : src.view.WordExact} {hwd : dst.view.WordExact}
    {hsem : DmaTarget.Typed .vmem (.dma sR) (.remote (Dev.tc n : Thread nD τ) (dst : Memref sig .tc .vmem s .bf16) (.dma sS) hsc)} :
    iprop(recs m ∗ (src'.view.loc (c : Thread nD τ) ↦[src'.view.set]{fullShare} fs) ∗ (dst'.view.loc (p : Thread nD τ) ↦[dst'.view.set]{fullShare} fd)
        ∗ ow c O' ∗ dutyTok ER (dmaCell c tS) 0 (0 : Fin 8) ∗ dutyTok ER (dmaCell p tR) 0 (0 : Fin 8))
      ⊢ iprop((cred (tallyAt (dmaCell c tS) () Na) ∗ ow c O -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.remote (Dev.tc n : Thread nD τ) dst (.dma sS) hsc) (.dma sR) hws hwd hsem) k) Q) := by
  subst hn hS hR hsrc hdst hN
  unfold ow
  iintro ⟨#HR, Hs, Hd, ⟨%W, HO⟩, HtS, HtR⟩ Hk
  ihave #HI := (recs_dma m c sS h3S) $$ HR
  ihave #HJ := (recs_dma m n sR h3R) $$ HR
  unfold rec1
  icases HI with ⟨%κ₁, #HI, #Hr1⟩
  icases HJ with ⟨%κ₂, #HJ, #Hr2⟩
  iapply (Rounds.wp_send_pointsTo 𝒱₀ ER (Rd m) (c : Thread nD τ) none (κ₁ := κ₁) (κ₂ := κ₂)
      (r₁ := 0) (r₂ := 0) (d₁ := 0) (d₂ := 0) (fd := fd)
      (by rw [duties_dma m c sS huS]; exact Finset.mem_singleton_self _) (by rw [duties_dma m n sR huR]; exact Finset.mem_singleton_self _)
      () () dst.view.dmaCredit rfl haS haR O hO (W := W) hpS hpR) $$ [Hs Hd HO HtS HtR]
  · isplitr; · iexact HI
    isplitr; · iexact HJ
    isplitl [Hs]; · iexact Hs
    isplitl [Hd]; · iexact Hd
    isplitl [HO]; · iexact HO
    isplitl [HtS]; · iexact HtS
    isplitr; · iexact Hr1
    isplitl [HtR]; · iexact HtR
    iexact Hr2
  iintro ⟨Hc, HO⟩
  iapply Hk
  isplitl [Hc]; · iexact Hc
  iexists W; iexact HO

theorem pcSlot_of (p : Dev nD) (off : Fin 3 → ℕ) (h : off = ![p.val, 0, 0]) (inb) (hs) (sq) :
    (pcM.slice (Rect.unit (s := S8x64x2048) off S1x64x2048.size inb) hs).squeeze S64x2048 sq = pcSlot p := by subst h; rfl
theorem rvSlot_of (p : Dev nD) (off : Fin 3 → ℕ) (h : off = ![p.val, 0, 0]) (inb) (hs) (sq) :
    (rvM.slice (Rect.unit (s := S8x64x2048) off S1x64x2048.size inb) hs).squeeze S64x2048 sq = rvSlot p := by subst h; rfl
theorem pcCol0_of (p : Dev nD) (off : Fin 3 → ℕ) (h : off = ![p.val, 0, 0]) (inb) (hs) (sq) :
    (pcM.slice (Rect.unit (s := S8x64x2048) off S1x64x768.size inb) hs).squeeze S64x768 sq = pcCol0 p := by subst h; rfl
theorem pcCol1_of (p : Dev nD) (off : Fin 3 → ℕ) (h : off = ![p.val, 0, 768]) (inb) (hs) (sq) :
    (pcM.slice (Rect.unit (s := S8x64x2048) off S1x64x768.size inb) hs).squeeze S64x768 sq = pcCol1 p := by subst h; rfl
theorem pcCol2_of (p : Dev nD) (off : Fin 3 → ℕ) (h : off = ![p.val, 0, 1536]) (inb) (hs) (sq) :
    (pcM.slice (Rect.unit (s := S8x64x2048) off S1x64x512.size inb) hs).squeeze S64x512 sq = pcCol2 p := by subst h; rfl

/-- The transfer of slot `peer c o` of the products to the receive slot of `c` there. -/
theorem wp_direct {Q : α → sProp 𝕄} (n : Dev nD) (o : Fin 8) (hn : n = peer c o) (h0 : o ≠ 0) (h7 : o ≠ 7) (sS sR : DmaSem sig)
    (hS : sS = sndS (peer c o)) (hR : sR = rcvS c)
    (src dst : Memref sig .tc .vmem S64x2048 .bf16) (hsrc : src = pcSlot (peer c o)) (hdst : dst = rvSlot c)
    (O O' : CellTallies nD τ sig Unit) (hO : O' = O + vT c o)
    {hsc : (dst : Memref sig (Dev.tc n : Thread nD τ).2.kind .vmem S64x2048 .bf16).view.ref.isScScratch = false}
    {hws : src.view.WordExact} {hwd : dst.view.WordExact}
    {hsem : DmaTarget.Typed .vmem (.dma sR) (.remote (Dev.tc n : Thread nD τ) (dst : Memref sig .tc .vmem S64x2048 .bf16) (.dma sS) hsc)} :
    iprop(recs m ∗ pcS c (slotSet (peer c o)) (PC2 m c) ∗ (∃ fd, rvS (peer c o) (slotSet c) fd) ∗ ow c O'
        ∗ dutyTok ER (dmaCell c (sndS (peer c o))) 0 (0 : Fin 8) ∗ dutyTok ER (dmaCell (peer c o) (rcvS c)) 0 (0 : Fin 8))
      ⊢ iprop((cred (tallyAt (dmaCell c (sndS (peer c o))) () N) ∗ ow c O -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.remote (Dev.tc n : Thread nD τ) dst (.dma sS) hsc) (.dma sR) hws hwd hsem) k) Q) := by
  iintro ⟨HR, Hs, ⟨%fd, Hd⟩, HO, HtS, HtR⟩ Hk
  iapply (wp_send m c n (peer c o) hn sS sR (sndS (peer c o)) (rcvS c) hS hR src dst (pcSlot (peer c o)) (rvSlot c) hsrc hdst
    (by show 3 ≤ 3 + (peer c o).val; omega) (by show 3 ≤ 11 + c.val; omega) (used_snd c h0 h7) (used_rcv' c h0 h7) N rfl
    (amount_snd m c _ 0) (amount_rcv m _ c 0) (PC2 m c) fd
    (by rw [payload_snd, pcSlot_set]; exact BI.Entails.refl _)
    (by
      rw [payload_rcv, rvSlot_set]
      refine Entails.of_eq (pointsTo_congr ?_)
      have h := RC_landed m (peer c o) o h0 h7 fd (PC2 m c)
      rw [peer_peer] at h
      exact h fun i _ => rfl)
    O O' hO) $$ [HR Hs Hd HO HtS HtR] [Hk]
  · isplitl [HR]; · iexact HR
    isplitl [Hs]; · rw [pcSlot_set]; unfold pcS; iexact Hs
    isplitl [Hd]; · rw [rvSlot_set]; unfold rvS; iexact Hd
    isplitl [HO]; · iexact HO
    isplitl [HtS]; · iexact HtS
    iexact HtR
  iexact Hk

theorem PC2_far (d : Fin 3) : ∀ i ∈ colSet (far c) d, PC2 m c i = PC m c i :=
  fun i hi => PC2_of m c 7 (by decide) (by decide) (by decide) i (col_slot hi)

/-- The relay of the first column group of the farthest device's slot. -/
theorem wp_relay0 {Q : α → sProp 𝕄} (n : Dev nD) (hn : n = peer c 1) (sS sR : DmaSem sig) (hS : sS = rsS 0) (hR : sR = rrS 0)
    (src dst : Memref sig .tc .vmem S64x768 .bf16) (hsrc : src = pcCol0 (far c)) (hdst : dst = rlSlot0)
    (O O' : CellTallies nD τ sig Unit) (hO : O' = O + rT c 0)
    {hsc : (dst : Memref sig (Dev.tc n : Thread nD τ).2.kind .vmem S64x768 .bf16).view.ref.isScScratch = false}
    {hws : src.view.WordExact} {hwd : dst.view.WordExact}
    {hsem : DmaTarget.Typed .vmem (.dma sR) (.remote (Dev.tc n : Thread nD τ) (dst : Memref sig .tc .vmem S64x768 .bf16) (.dma sS) hsc)} :
    iprop(recs m ∗ pcS c (colSet (far c) 0) (PC2 m c) ∗ (∃ fd, rlS (peer c 1) (rlSet 0) fd) ∗ ow c O'
        ∗ dutyTok ER (dmaCell c (rsS 0)) 0 (0 : Fin 8) ∗ dutyTok ER (dmaCell (peer c (rel 0)) (rrS 0)) 0 (0 : Fin 8))
      ⊢ iprop((cred (tallyAt (dmaCell c (rsS 0)) () (Nr 0)) ∗ ow c O -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.remote (Dev.tc n : Thread nD τ) dst (.dma sS) hsc) (.dma sR) hws hwd hsem) k) Q) := by
  iintro ⟨HR, Hs, ⟨%fd, Hd⟩, HO, HtS, HtR⟩ Hk
  iapply (wp_send m c n (peer c (rel 0)) hn sS sR (rsS 0) (rrS 0) hS hR src dst (pcCol0 (far c)) rlSlot0 hsrc hdst
    (by decide) (by decide) (used_rs c 0) (used_rr _ 0) (Nr 0) rfl
    (amount_rs m c 0 0) (amount_rr m _ 0 0) (PC2 m c) fd
    (by rw [payload_rs, pcCol0_set]; exact BI.Entails.refl _)
    (by
      rw [payload_rr, rlSlot0_set]
      exact Entails.of_eq (pointsTo_congr (RL0_landed m (peer c 1) c (peer_peer c 1).symm fd (PC2 m c) (PC2_far m c 0))))
    O O' hO) $$ [HR Hs Hd HO HtS HtR] [Hk]
  · isplitl [HR]; · iexact HR
    isplitl [Hs]; · rw [pcCol0_set]; unfold pcS; iexact Hs
    isplitl [Hd]; · rw [rlSlot0_set]; unfold rlS; iexact Hd
    isplitl [HO]; · iexact HO
    isplitl [HtS]; · iexact HtS
    iexact HtR
  iexact Hk

/-- The relay of the second. -/
theorem wp_relay1 {Q : α → sProp 𝕄} (n : Dev nD) (hn : n = peer c 2) (sS sR : DmaSem sig) (hS : sS = rsS 1) (hR : sR = rrS 1)
    (src dst : Memref sig .tc .vmem S64x768 .bf16) (hsrc : src = pcCol1 (far c)) (hdst : dst = rlSlot1)
    (O O' : CellTallies nD τ sig Unit) (hO : O' = O + rT c 1)
    {hsc : (dst : Memref sig (Dev.tc n : Thread nD τ).2.kind .vmem S64x768 .bf16).view.ref.isScScratch = false}
    {hws : src.view.WordExact} {hwd : dst.view.WordExact}
    {hsem : DmaTarget.Typed .vmem (.dma sR) (.remote (Dev.tc n : Thread nD τ) (dst : Memref sig .tc .vmem S64x768 .bf16) (.dma sS) hsc)} :
    iprop(recs m ∗ pcS c (colSet (far c) 1) (PC2 m c) ∗ (∃ fd, rlS (peer c 2) (rlSet 1) fd) ∗ ow c O'
        ∗ dutyTok ER (dmaCell c (rsS 1)) 0 (0 : Fin 8) ∗ dutyTok ER (dmaCell (peer c (rel 1)) (rrS 1)) 0 (0 : Fin 8))
      ⊢ iprop((cred (tallyAt (dmaCell c (rsS 1)) () (Nr 1)) ∗ ow c O -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.remote (Dev.tc n : Thread nD τ) dst (.dma sS) hsc) (.dma sR) hws hwd hsem) k) Q) := by
  iintro ⟨HR, Hs, ⟨%fd, Hd⟩, HO, HtS, HtR⟩ Hk
  iapply (wp_send m c n (peer c (rel 1)) hn sS sR (rsS 1) (rrS 1) hS hR src dst (pcCol1 (far c)) rlSlot1 hsrc hdst
    (by decide) (by decide) (used_rs c 1) (used_rr _ 1) (Nr 1) rfl
    (amount_rs m c 1 0) (amount_rr m _ 1 0) (PC2 m c) fd
    (by rw [payload_rs, pcCol1_set]; exact BI.Entails.refl _)
    (by
      rw [payload_rr, rlSlot1_set]
      exact Entails.of_eq (pointsTo_congr (RL1_landed m (peer c 2) c (peer_peer c 2).symm fd (PC2 m c) (PC2_far m c 1))))
    O O' hO) $$ [HR Hs Hd HO HtS HtR] [Hk]
  · isplitl [HR]; · iexact HR
    isplitl [Hs]; · rw [pcCol1_set]; unfold pcS; iexact Hs
    isplitl [Hd]; · rw [rlSlot1_set]; unfold rlS; iexact Hd
    isplitl [HO]; · iexact HO
    isplitl [HtS]; · iexact HtS
    iexact HtR
  iexact Hk

/-- The relay of the third. -/
theorem wp_relay2 {Q : α → sProp 𝕄} (n : Dev nD) (hn : n = peer c 4) (sS sR : DmaSem sig) (hS : sS = rsS 2) (hR : sR = rrS 2)
    (src dst : Memref sig .tc .vmem S64x512 .bf16) (hsrc : src = pcCol2 (far c)) (hdst : dst = rlSlot2)
    (O O' : CellTallies nD τ sig Unit) (hO : O' = O + rT c 2)
    {hsc : (dst : Memref sig (Dev.tc n : Thread nD τ).2.kind .vmem S64x512 .bf16).view.ref.isScScratch = false}
    {hws : src.view.WordExact} {hwd : dst.view.WordExact}
    {hsem : DmaTarget.Typed .vmem (.dma sR) (.remote (Dev.tc n : Thread nD τ) (dst : Memref sig .tc .vmem S64x512 .bf16) (.dma sS) hsc)} :
    iprop(recs m ∗ pcS c (colSet (far c) 2) (PC2 m c) ∗ (∃ fd, rlS (peer c 4) (rlSet 2) fd) ∗ ow c O'
        ∗ dutyTok ER (dmaCell c (rsS 2)) 0 (0 : Fin 8) ∗ dutyTok ER (dmaCell (peer c (rel 2)) (rrS 2)) 0 (0 : Fin 8))
      ⊢ iprop((cred (tallyAt (dmaCell c (rsS 2)) () (Nr 2)) ∗ ow c O -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.remote (Dev.tc n : Thread nD τ) dst (.dma sS) hsc) (.dma sR) hws hwd hsem) k) Q) := by
  iintro ⟨HR, Hs, ⟨%fd, Hd⟩, HO, HtS, HtR⟩ Hk
  iapply (wp_send m c n (peer c (rel 2)) hn sS sR (rsS 2) (rrS 2) hS hR src dst (pcCol2 (far c)) rlSlot2 hsrc hdst
    (by decide) (by decide) (used_rs c 2) (used_rr _ 2) (Nr 2) rfl
    (amount_rs m c 2 0) (amount_rr m _ 2 0) (PC2 m c) fd
    (by rw [payload_rs, pcCol2_set]; exact BI.Entails.refl _)
    (by
      rw [payload_rr, rlSlot2_set]
      exact Entails.of_eq (pointsTo_congr (RL2_landed m (peer c 4) c (peer_peer c 4).symm fd (PC2 m c) (PC2_far m c 2))))
    O O' hO) $$ [HR Hs Hd HO HtS HtR] [Hk]
  · isplitl [HR]; · iexact HR
    isplitl [Hs]; · rw [pcCol2_set]; unfold pcS; iexact Hs
    isplitl [Hd]; · rw [rlSlot2_set]; unfold rlS; iexact Hd
    isplitl [HO]; · iexact HO
    isplitl [HtS]; · iexact HtS
    iexact HtR
  iexact Hk

/-! ## Loads and stores -/

/-- A load of a rectangle of the product buffer. -/
theorem wp_load_pc {Q : α → sProp 𝕄} (off off' : Fin 3 → ℕ) (h : off = off') {size : Fin 3 → ℕ} {inb : ∀ a, off a + size a ≤ S8x64x2048.size a}
    (inb' : ∀ a, off' a + size a ≤ S8x64x2048.size a) {hl : (pcM : Memref sig .tc .vmem S8x64x2048 .bf16).view.LoadsAt (Rect.unit (s := S8x64x2048) off size inb).toLoadRect}
    {k : ((Rect.unit (s := S8x64x2048) off size inb).toLoadRect.shape.Idx → Elt F .bf16) → Prog (TpuEff nD τ sig (Elt F) Λ₀ .tc) α}
    (A : Finset S8x64x2048.Idx) (f) (hA : (Rect.unit (s := S8x64x2048) off' size inb').set ⊆ A) :
    pcS c A f ⊢ iprop((pcS c A f -∗ wp frame (wpE (defs₀ (F := F)) 𝒱₀ (c : Thread nD τ) none) Set.univ
          (k ((pcM.access (Rect.unit (s := S8x64x2048) off' size inb')).read (Elt F) f)) Q)
        -∗ wp frame (wpE (defs₀ (F := F)) 𝒱₀ (c : Thread nD τ) none) Set.univ (.op (.load pcM (Rect.unit (s := S8x64x2048) off size inb).toLoadRect hl) k) Q) := by
  subst h
  exact wp_load_rect 𝒱₀ (c : Thread nD τ) none Set.univ (m := pcM) (r := Rect.unit (s := S8x64x2048) off size inb') (by
    rw [access_set8]; exact hA)

/-- A store over a rectangle of the product buffer. -/
theorem wp_store_pc {Q : α → sProp 𝕄} (off off' : Fin 3 → ℕ) (h : off = off') {size : Fin 3 → ℕ} {inb : ∀ a, off a + size a ≤ S8x64x2048.size a}
    (inb' : ∀ a, off' a + size a ≤ S8x64x2048.size a) {w : (Rect.unit (s := S8x64x2048) off size inb).shape.Idx → Elt F .bf16}
    {hx : ((pcM : Memref sig .tc .vmem S8x64x2048 .bf16).access (Rect.unit (s := S8x64x2048) off size inb)).Stores Finset.univ} {hm}
    (A : Finset S8x64x2048.Idx) (f) (hA : (Rect.unit (s := S8x64x2048) off' size inb').set ⊆ A) :
    pcS c A f ⊢ iprop((pcS c A ((pcM.access (Rect.unit (s := S8x64x2048) off' size inb')).write (Elt F) f w Finset.univ)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.store pcM (Rect.unit (s := S8x64x2048) off size inb) w Finset.univ hx hm) k) Q) := by
  subst h
  exact wp_store 𝒱₀ (c : Thread nD τ) none Set.univ (m := pcM) (r := Rect.unit (s := S8x64x2048) off size inb') (Mk := Finset.univ) (by
    rw [View.setOn_univ, access_set8]; exact hA)

/-- A load of a rectangle of the receive buffer. -/
theorem wp_load_rv {Q : α → sProp 𝕄} (off off' : Fin 3 → ℕ) (h : off = off') {size : Fin 3 → ℕ} {inb : ∀ a, off a + size a ≤ S8x64x2048.size a}
    (inb' : ∀ a, off' a + size a ≤ S8x64x2048.size a) {hl : (rvM : Memref sig .tc .vmem S8x64x2048 .bf16).view.LoadsAt (Rect.unit (s := S8x64x2048) off size inb).toLoadRect}
    {k : ((Rect.unit (s := S8x64x2048) off size inb).toLoadRect.shape.Idx → Elt F .bf16) → Prog (TpuEff nD τ sig (Elt F) Λ₀ .tc) α}
    (A : Finset S8x64x2048.Idx) (f) (hA : (Rect.unit (s := S8x64x2048) off' size inb').set ⊆ A) :
    rvS c A f ⊢ iprop((rvS c A f -∗ wp frame (wpE (defs₀ (F := F)) 𝒱₀ (c : Thread nD τ) none) Set.univ
          (k ((rvM.access (Rect.unit (s := S8x64x2048) off' size inb')).read (Elt F) f)) Q)
        -∗ wp frame (wpE (defs₀ (F := F)) 𝒱₀ (c : Thread nD τ) none) Set.univ (.op (.load rvM (Rect.unit (s := S8x64x2048) off size inb).toLoadRect hl) k) Q) := by
  subst h
  exact wp_load_rect 𝒱₀ (c : Thread nD τ) none Set.univ (m := rvM) (r := Rect.unit (s := S8x64x2048) off size inb') (by
    rw [access_set8]; exact hA)

/-- A store over a rectangle of the receive buffer. -/
theorem wp_store_rv {Q : α → sProp 𝕄} (off off' : Fin 3 → ℕ) (h : off = off') {size : Fin 3 → ℕ} {inb : ∀ a, off a + size a ≤ S8x64x2048.size a}
    (inb' : ∀ a, off' a + size a ≤ S8x64x2048.size a) {w : (Rect.unit (s := S8x64x2048) off size inb).shape.Idx → Elt F .bf16}
    {hx : ((rvM : Memref sig .tc .vmem S8x64x2048 .bf16).access (Rect.unit (s := S8x64x2048) off size inb)).Stores Finset.univ} {hm}
    (A : Finset S8x64x2048.Idx) (f) (hA : (Rect.unit (s := S8x64x2048) off' size inb').set ⊆ A) :
    rvS c A f ⊢ iprop((rvS c A ((rvM.access (Rect.unit (s := S8x64x2048) off' size inb')).write (Elt F) f w Finset.univ)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.store rvM (Rect.unit (s := S8x64x2048) off size inb) w Finset.univ hx hm) k) Q) := by
  subst h
  exact wp_store 𝒱₀ (c : Thread nD τ) none Set.univ (m := rvM) (r := Rect.unit (s := S8x64x2048) off size inb') (Mk := Finset.univ) (by
    rw [View.setOn_univ, access_set8]; exact hA)

/-- A load of a rectangle of the relay buffer. -/
theorem wp_load_rl {Q : α → sProp 𝕄} (off off' : Fin 3 → ℕ) (h : off = off') {size : Fin 3 → ℕ} {inb : ∀ a, off a + size a ≤ S3x64x768.size a}
    (inb' : ∀ a, off' a + size a ≤ S3x64x768.size a) {hl : (rlM : Memref sig .tc .vmem S3x64x768 .bf16).view.LoadsAt (Rect.unit (s := S3x64x768) off size inb).toLoadRect}
    {k : ((Rect.unit (s := S3x64x768) off size inb).toLoadRect.shape.Idx → Elt F .bf16) → Prog (TpuEff nD τ sig (Elt F) Λ₀ .tc) α}
    (A : Finset S3x64x768.Idx) (f) (hA : (Rect.unit (s := S3x64x768) off' size inb').set ⊆ A) :
    rlS c A f ⊢ iprop((rlS c A f -∗ wp frame (wpE (defs₀ (F := F)) 𝒱₀ (c : Thread nD τ) none) Set.univ
          (k ((rlM.access (Rect.unit (s := S3x64x768) off' size inb')).read (Elt F) f)) Q)
        -∗ wp frame (wpE (defs₀ (F := F)) 𝒱₀ (c : Thread nD τ) none) Set.univ (.op (.load rlM (Rect.unit (s := S3x64x768) off size inb).toLoadRect hl) k) Q) := by
  subst h
  exact wp_load_rect 𝒱₀ (c : Thread nD τ) none Set.univ (m := rlM) (r := Rect.unit (s := S3x64x768) off size inb') (by
    rw [access_set8]; exact hA)

end Steps

end Cert.KernelProof

end
-- ==== Proof.Parts.lean ====
/-
# The exchange of device blocks: taking the buffers apart and putting them together

The product and the receive buffer are their eight slots, named by relation to the device; half of the product buffer is
the four slots of one half of the relations. The relay buffer is its three slots and what none of them covers. A slot is its three column groups.
-/
module

public import proofs.«01_k».proof.Proof.Steps

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Slots by relation -/

def near : Finset (Fin 8) := {0, 1, 2, 3}
def away : Finset (Fin 8) := {4, 5, 6, 7}
theorem mem_near {o : Fin 8} : o ∈ near ↔ o.val < 4 := by revert o; decide
theorem mem_away {o : Fin 8} : o ∈ away ↔ ¬ o.val < 4 := by revert o; decide

theorem slots_disjoint (c : Dev nD) {o o' : Fin 8} (h : o ≠ o') : Disjoint (slotSet (peer c o)) (slotSet (peer c o')) :=
  Finset.disjoint_left.2 fun i hi hi' => slot_ne (fun e => h (peer_inj c e)) hi hi'

/-- The slots of the relations in `S` are the indices whose device is at one of them. -/
theorem mem_slots (c : Dev nD) (S : Finset (Fin 8)) (i : S8x64x2048.Idx) :
    (i ∈ S.biUnion fun o => slotSet (peer c o)) ↔ ∃ o ∈ S, (i 0).val = (peer c o).val := by
  rw [Finset.mem_biUnion]
  exact exists_congr fun o => and_congr_right fun _ => mem_slotSet

theorem half_eq (c : Dev nD) (S : Finset (Fin 8)) (A : Finset S8x64x2048.Idx)
    (h : ∀ (o : Fin 8) (i : S8x64x2048.Idx), (i 0).val = (peer c o).val → (i ∈ A ↔ o ∈ S)) : A = S.biUnion fun o => slotSet (peer c o) := by
  ext i
  rw [mem_slots]
  obtain ⟨o, ho⟩ := peer_surj c (⟨(i 0).val, (bd8 i).1⟩ : Fin 8)
  have hi : (i 0).val = (peer c o).val := by rw [ho]
  constructor
  · exact fun hA => ⟨o, (h o i hi).1 hA, hi⟩
  · rintro ⟨o', ho', hi'⟩; exact (h o' i hi').2 ho'

theorem univ_slots (c : Dev nD) : (Finset.univ : Finset S8x64x2048.Idx) = (Finset.univ : Finset (Fin 8)).biUnion fun o => slotSet (peer c o) :=
  half_eq c _ _ fun o i _ => by simp
theorem lo_near (c : Dev nD) (h : c.val < 4) : loSet = near.biUnion fun o => slotSet (peer c o) :=
  half_eq c _ _ fun o i hi => by rw [mem_loSet, hi, peer_half, mem_near]; exact iff_of_eq (by rw [eq_true h, true_iff])
theorem hi_away (c : Dev nD) (h : c.val < 4) : hiSet = away.biUnion fun o => slotSet (peer c o) :=
  half_eq c _ _ fun o i hi => by rw [mem_hiSet, hi, peer_half, mem_away, eq_true h, true_iff]
theorem lo_away (c : Dev nD) (h : ¬ c.val < 4) : loSet = away.biUnion fun o => slotSet (peer c o) :=
  half_eq c _ _ fun o i hi => by rw [mem_loSet, hi, peer_half, mem_away, eq_false h, false_iff]
theorem hi_near (c : Dev nD) (h : ¬ c.val < 4) : hiSet = near.biUnion fun o => slotSet (peer c o) :=
  half_eq c _ _ fun o i hi => by rw [mem_hiSet, hi, peer_half, mem_near, eq_false h, false_iff, not_not]

/-! ## The product buffer -/

omit [FloatOps F] in
theorem pcS_slots (c : Dev nD) (S : Finset (Fin 8)) (A : Finset S8x64x2048.Idx) (hA : A = S.biUnion fun o => slotSet (peer c o)) (f : C8 F) :
    (pcS c A f : sProp 𝕄) = bigSep S fun o => pcS c (slotSet (peer c o)) f := by
  subst hA; unfold pcS
  exact pointsTo_biUnion S _ fun o _ o' _ h => slots_disjoint c h

theorem slot_cols (p : Dev nD) : slotSet p = (Finset.univ : Finset (Fin 3)).biUnion fun d => colSet p d := by
  ext i
  rw [Finset.mem_biUnion, mem_slotSet]
  have hb := bd8 i
  constructor
  · intro h
    by_cases h0 : (i 2).val < 768
    · exact ⟨0, Finset.mem_univ _, mem_colSet.2 ⟨h, by simp; omega⟩⟩
    · by_cases h1 : (i 2).val < 1536
      · exact ⟨1, Finset.mem_univ _, mem_colSet.2 ⟨h, by simp; omega⟩⟩
      · exact ⟨2, Finset.mem_univ _, mem_colSet.2 ⟨h, by simp; omega⟩⟩
  · rintro ⟨d, _, hd⟩; exact (mem_colSet.1 hd).1
theorem cols_disjoint (p : Dev nD) {d d' : Fin 3} (h : d ≠ d') : Disjoint (colSet p d) (colSet p d') :=
  Finset.disjoint_left.2 fun i hi hi' => by
    have a := (mem_colSet.1 hi).2; have b := (mem_colSet.1 hi').2
    have : d.val ≠ d'.val := fun e => h (Fin.ext e)
    omega

omit [FloatOps F] in
theorem pcS_cols (c p : Dev nD) (f : C8 F) :
    (pcS c (slotSet p) f : sProp 𝕄) = iprop(pcS c (colSet p 0) f ∗ pcS c (colSet p 1) f ∗ pcS c (colSet p 2) f) := by
  rw [slot_cols p]; unfold pcS
  rw [pointsTo_biUnion Finset.univ _ fun d _ d' _ h => cols_disjoint p h, bigSep_univ_eq_bigSepL [0, 1, 2] (by decide) (by decide)]
  rfl

omit [FloatOps F] in
theorem pcS_halves (c : Dev nD) (f : C8 F) : (pcS c Finset.univ f : sProp 𝕄) ⊣⊢ iprop(pcS c loSet f ∗ pcS c hiSet f) := by
  have h : Finset.univ \ loSet = hiSet := by ext i; rw [Finset.mem_sdiff, mem_loSet, mem_hiSet]; simp
  unfold pcS; rw [← h]
  exact pointsTo_split_subset (Finset.subset_univ _)

/-- The products for the near relations, as the transfers want them. -/
theorem near_slots (c : Dev nD) (A : Finset S8x64x2048.Idx) (hA : A = near.biUnion fun o => slotSet (peer c o)) :
    (pcS c A (PC m c) : sProp 𝕄) ⊢ iprop(pcS c (slotSet (peer c 0)) (PC2 m c) ∗ pcS c (slotSet (peer c 1)) (PC2 m c)
      ∗ pcS c (slotSet (peer c 2)) (PC2 m c) ∗ pcS c (slotSet (peer c 3)) (PC m c)) := by
  rw [pcS_slots c near A hA, bigSep_eq_bigSepL_of_eq [0, 1, 2, 3] (by decide) (by decide),
    pcS_congr (PC2_of m c 0 (by decide) (by decide) (by decide)), pcS_congr (PC2_of m c 1 (by decide) (by decide) (by decide)),
    pcS_congr (PC2_of m c 2 (by decide) (by decide) (by decide))]
  exact BI.Entails.refl _
/-- The products for the others. -/
theorem away_slots (c : Dev nD) (A : Finset S8x64x2048.Idx) (hA : A = away.biUnion fun o => slotSet (peer c o)) :
    (pcS c A (PC m c) : sProp 𝕄) ⊢ iprop(pcS c (slotSet (peer c 4)) (PC2 m c) ∗ pcS c (slotSet (peer c 5)) (PC m c)
      ∗ pcS c (slotSet (peer c 6)) (PC m c)
      ∗ pcS c (colSet (far c) 0) (PC2 m c) ∗ pcS c (colSet (far c) 1) (PC2 m c) ∗ pcS c (colSet (far c) 2) (PC2 m c)) := by
  rw [pcS_slots c away A hA, bigSep_eq_bigSepL_of_eq [4, 5, 6, 7] (by decide) (by decide),
    pcS_congr (PC2_of m c 4 (by decide) (by decide) (by decide)), ← pcS_cols c (far c) (PC2 m c),
    show slotSet (far c) = slotSet (peer c 7) from rfl, pcS_congr (PC2_of m c 7 (by decide) (by decide) (by decide))]
  exact BI.Entails.refl _

/-- All of the product buffer again. -/
theorem pc_whole (c : Dev nD) : iprop(pcS c (slotSet (peer c 0)) (PC2 m c) ∗ pcS c (slotSet (peer c 1)) (PC2 m c) ∗ pcS c (slotSet (peer c 2)) (PC2 m c)
    ∗ pcS c (slotSet (peer c 3)) (PC2 m c) ∗ pcS c (slotSet (peer c 4)) (PC2 m c) ∗ pcS c (slotSet (peer c 5)) (PC2 m c) ∗ pcS c (slotSet (peer c 6)) (PC2 m c)
    ∗ pcS c (colSet (far c) 0) (PC2 m c) ∗ pcS c (colSet (far c) 1) (PC2 m c) ∗ pcS c (colSet (far c) 2) (PC2 m c))
      ⊢ (pcS c Finset.univ (PC2 m c) : sProp 𝕄) := by
  rw [pcS_slots c Finset.univ _ (univ_slots c), bigSep_univ_eq_bigSepL [0, 1, 2, 3, 4, 5, 6, 7] (by decide) (by decide), ← pcS_cols c (far c) (PC2 m c)]
  exact BI.Entails.refl _

/-! ## The receive buffer -/

omit [FloatOps F] in
theorem rvS_slots (c : Dev nD) (f : C8 F) : (rvS c Finset.univ f : sProp 𝕄)
    = iprop(rvS c (slotSet (peer c 0)) f ∗ rvS c (slotSet (peer c 1)) f ∗ rvS c (slotSet (peer c 2)) f ∗ rvS c (slotSet (peer c 3)) f
      ∗ rvS c (slotSet (peer c 4)) f ∗ rvS c (slotSet (peer c 5)) f ∗ rvS c (slotSet (peer c 6)) f ∗ rvS c (slotSet (peer c 7)) f) := by
  rw [univ_slots c]; unfold rvS
  rw [pointsTo_biUnion Finset.univ _ fun o _ o' _ h => slots_disjoint c h,
    bigSep_univ_eq_bigSepL [0, 1, 2, 3, 4, 5, 6, 7] (by decide) (by decide)]
  rfl

/-! ## The relay buffer -/

def rlAll : Finset S3x64x768.Idx := Finset.univ.biUnion rlSet

theorem rl_disjoint {d d' : Fin 3} (h : d ≠ d') : Disjoint (rlSet d) (rlSet d') :=
  Finset.disjoint_left.2 fun i hi hi' => h (Fin.ext ((mem_rlSet.1 hi).1.symm.trans (mem_rlSet.1 hi').1))

omit [FloatOps F] in
theorem rlS_split (c : Dev nD) (f : C3 F) : (rlS c Finset.univ f : sProp 𝕄)
    ⊢ iprop((rlS c (rlSet 0) f ∗ rlS c (rlSet 1) f ∗ rlS c (rlSet 2) f) ∗ rlS c (Finset.univ \ rlAll) f) := by
  unfold rlS
  refine (pointsTo_split_subset (Finset.subset_univ rlAll)).1.trans (BI.sep_mono ?_ (BI.Entails.refl _))
  unfold rlAll
  rw [pointsTo_biUnion Finset.univ _ fun d _ d' _ h => rl_disjoint h, bigSep_univ_eq_bigSepL [0, 1, 2] (by decide) (by decide)]
  exact BI.Entails.refl _
omit [FloatOps F] in
theorem rlS_join (c : Dev nD) (g : Fin 3 → C3 F) (f : C3 F) :
    iprop((rlS c (rlSet 0) (g 0) ∗ rlS c (rlSet 1) (g 1) ∗ rlS c (rlSet 2) (g 2)) ∗ rlS c (Finset.univ \ rlAll) f)
      ⊢ iprop(∃ f, rlS c Finset.univ f : sProp 𝕄) := by
  unfold rlS
  have h := pointsTo_biUnion_join (Ix := Unit) (Name := ℕ) (U := UU) (Lvl := ℕ) (ℓ := (c : Thread nD τ).loc cc0_scratch2) (q := fullShare)
    Finset.univ rlSet g f fun d _ d' _ h => rl_disjoint h
  rw [bigSep_univ_eq_bigSepL [0, 1, 2] (by decide) (by decide), bigSepL_cons_cons, bigSepL_cons_cons, bigSepL_singleton] at h
  iintro ⟨Hs, Hr⟩
  ihave ⟨%u, -, H⟩ := h $$ Hs
  iexists _
  iapply (pointsTo_join_subset (Finset.subset_univ rlAll))
  isplitl [H]; · unfold rlAll; iexact H
  iexact Hr

/-! ## What is handed over at the barrier -/

/-- What device `c` keeps of its receive buffer, what it hands each neighbour, and what no relay slot covers. -/
theorem split_start (c : Dev nD) (f : C8 F) (g : C3 F) : iprop(rvS c Finset.univ f ∗ rlS c Finset.univ g)
    ⊢ (iprop(rvS c (slotSet (peer c 0)) f ∗ rvS c (slotSet (far c)) f ∗ rlS c (Finset.univ \ rlAll) g
      ∗ barPay (peer c 1) 1 ∗ barPay (peer c 2) 2 ∗ barPay (peer c 3) 3 ∗ barPay (peer c 4) 4 ∗ barPay (peer c 5) 5 ∗ barPay (peer c 6) 6
      ∗ barPay (peer c 7) 7) : sProp 𝕄) := by
  rw [rvS_slots c f]
  unfold barPay
  simp only [peer_peer]
  iintro ⟨⟨H0, H1, H2, H3, H4, H5, H6, H7⟩, Hr⟩
  ihave ⟨⟨R0, R1, R2⟩, Rr⟩ := (rlS_split c g) $$ Hr
  isplitl [H0]; · iexact H0
  isplitl [H7]; · iexact H7
  isplitl [Rr]; · iexact Rr
  isplitl [H1 R0]; · isplitl [H1] <;> (iexists _; iassumption)
  isplitl [H2 R1]; · isplitl [H2] <;> (iexists _; iassumption)
  isplitl [H3]; · iexists _; iexact H3
  isplitl [H4 R2]; · isplitl [H4] <;> (iexists _; iassumption)
  isplitl [H5]; · iexists _; iexact H5
  isplitl [H6]; · iexists _; iexact H6
  iempintro

end Cert.KernelProof

end
-- ==== Proof.First.lean ====
/-
# The exchange of device blocks: the first half of the body

Piece by piece: the barrier's signals, the lower half of the products, the barrier wait, and what is sent before anything has come —
in one order on the devices of the lower half, in the other on those of the upper half, since the products a device sends
first are those for its own half in the one case and for the other half in the other.
-/
module

public import proofs.«01_k».proof.Proof.Parts

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The right to signal the neighbour at relation `o`; what a transfer to it needs; what a relay needs. -/
def bTok (c : Dev nD) (o : Fin 8) : sProp 𝕄 := dutyTok ER (barCell (peer c o)) 0 o
def dTok (c : Dev nD) (o : Fin 8) : sProp 𝕄 :=
  iprop(dutyTok ER (dmaCell c (sndS (peer c o))) 0 (0 : Fin 8) ∗ dutyTok ER (dmaCell (peer c o) (rcvS c)) 0 (0 : Fin 8))
def rTok (c : Dev nD) (d : Fin 3) : sProp 𝕄 :=
  iprop(dutyTok ER (dmaCell c (rsS d)) 0 (0 : Fin 8) ∗ dutyTok ER (dmaCell (peer c (rel d)) (rrS d)) 0 (0 : Fin 8))
def DK (c : Dev nD) (o : Fin 8) : sProp 𝕄 := iprop((∃ fd, rvS (peer c o) (slotSet c) fd) ∗ dTok c o)
def RK (c : Dev nD) (d : Fin 3) : sProp 𝕄 := iprop((∃ fd, rlS (peer c (rel d)) (rlSet d) fd) ∗ rTok c d)

/-- The staged blocks of the arguments. -/
def stx (c : Dev nD) : sProp 𝕄 := ((c : Thread nD τ).loc cc0_stg0_0) ↦{fullShare} xs m c
def sty (c : Dev nD) : sProp 𝕄 := ((c : Thread nD τ).loc cc0_stg1_0) ↦{fullShare} dys m c

/-- The credit a transfer gives its sender. -/
def sC (c : Dev nD) (o : Fin 8) : sProp 𝕄 := cred (tallyAt (dmaCell c (sndS (peer c o))) () N)
def rC (c : Dev nD) (d : Fin 3) : sProp 𝕄 := cred (tallyAt (dmaCell c (rsS d)) () (Nr d))

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

section Pieces
variable (c : Dev nD)

set_option maxHeartbeats 800000 in
theorem part1_ok (Kt : (Σ' (d0 : Dev nD) (v2 : BitVec 32) (v9 : BitVec 32) (v10 : Sems sig S_), BitVec 32) → sProp 𝕄) :
    iprop(recs m ∗ ow c (O₀ c) ∗ (bTok c 1 ∗ barPay (peer c 1) 1) ∗ (bTok c 2 ∗ barPay (peer c 2) 2)
        ∗ (∀ v2 v9 v31, ow c (Os c + bT c 7 + bT c 6 + bT c 5 + bT c 4 + bT c 3) -∗ Kt ⟨c, v2, v9, SemArray.scalar (sig.barrier 0 rfl), v31⟩))
      ⊢ wp frame (wpE (defs₀ (F := F)) 𝒱₀ (c : Thread nD τ) none) Set.univ
        (k0_part1 xM (Memref.isWhole_whole _) dyM (Memref.isWhole_whole _) oM (Memref.isWhole_whole _) pcM (Memref.isWhole_whole _) rvM (Memref.isWhole_whole _) rlM (Memref.isWhole_whole _)
          cc0_scratch3 cc0_scratch4 cc0_scratch5 cc0_scratch6) Kt := by
  simp only [k0_part1_eq_skeleton]; unfold k0_part1_skel
  simp only [semSignalWord, Prog.lift, Prog.bind_op, Prog.bind_ret, Prog.pure_eq_ret, wp_deviceId]
  unfold bTok O₀
  iintro ⟨#HR, HO, ⟨Ht1, Hp1⟩, ⟨Ht2, Hp2⟩, Hk⟩
  iapply (wp_sig m c _ 1 (dev1_eq c _) (by decide) (by decide) _ _ rfl) $$ [HO Ht1 Hp1]
  · isplitr; · iexact HR
    isplitl [HO]; · iexact HO
    isplitl [Ht1]; · iexact Ht1
    iexact Hp1
  iintro HO
  iapply (wp_sig m c _ 2 (dev2_eq c _) (by decide) (by decide) _ _ rfl) $$ [HO Ht2 Hp2]
  · isplitr; · iexact HR
    isplitl [HO]; · iexact HO
    isplitl [Ht2]; · iexact Ht2
    iexact Hp2
  iintro HO
  rw [wp_ret]; imodintro
  iapply Hk; iexact HO

set_option maxHeartbeats 800000 in
theorem part2_ok (w₁ w₂ : BitVec 32) (Kt : (Σ' (v59 : BitVec 32), BitVec 32) → sProp 𝕄) :
    iprop(recs m ∗ ow c (Os c + bT c 7 + bT c 6 + bT c 5 + bT c 4 + bT c 3) ∗ (bTok c 3 ∗ barPay (peer c 3) 3) ∗ (bTok c 4 ∗ barPay (peer c 4) 4)
        ∗ (bTok c 5 ∗ barPay (peer c 5) 5) ∗ (∀ v, ow c (Os c + bT c 7 + bT c 6) -∗ Kt v))
      ⊢ wp frame (wpE (defs₀ (F := F)) 𝒱₀ (c : Thread nD τ) none) Set.univ
        (k0_part2 xM (Memref.isWhole_whole _) dyM (Memref.isWhole_whole _) oM (Memref.isWhole_whole _) pcM (Memref.isWhole_whole _) rvM (Memref.isWhole_whole _) rlM (Memref.isWhole_whole _)
          cc0_scratch3 cc0_scratch4 cc0_scratch5 cc0_scratch6 c w₁ (SemArray.scalar (sig.barrier 0 rfl)) w₂) Kt := by
  simp only [k0_part2_eq_skeleton]; unfold k0_part2_skel
  simp only [semSignalWord, Prog.lift, Prog.bind_op, Prog.bind_ret, Prog.pure_eq_ret]
  unfold bTok
  iintro ⟨#HR, HO, ⟨Ht1, Hp1⟩, ⟨Ht2, Hp2⟩, ⟨Ht3, Hp3⟩, Hk⟩
  iapply (wp_sig m c _ 3 (dev3_eq c _) (by decide) (by decide) _ _ rfl) $$ [HO Ht1 Hp1]
  · isplitr; · iexact HR
    isplitl [HO]; · iexact HO
    isplitl [Ht1] <;> iassumption
  iintro HO
  iapply (wp_sig m c _ 4 (dev4_eq c _) (by decide) (by decide) _ _ rfl) $$ [HO Ht2 Hp2]
  · isplitr; · iexact HR
    isplitl [HO]; · iexact HO
    isplitl [Ht2] <;> iassumption
  iintro HO
  iapply (wp_sig m c _ 5 (dev5_eq c _) (by decide) (by decide) _ _ rfl) $$ [HO Ht3 Hp3]
  · isplitr; · iexact HR
    isplitl [HO]; · iexact HO
    isplitl [Ht3] <;> iassumption
  iintro HO
  rw [wp_ret]; imodintro
  iapply Hk; iexact HO

omit [FloatOps F] in
theorem read_xM (f : (cc0_stg0_0 : Ref sig .tc).ty.Contents (Elt F)) :
    xM.view.readAt (Elt F) (Rect.unit (s := S512x512) ![0, 0] S512x512.size inb_S512x512_S512x512_0_0).toLoadRect f = f :=
  Memref.readAt_unit_zero (Elt F) cc0_stg0_0 hz2 _ f
omit [FloatOps F] in
theorem read_dyM (f : (cc0_stg1_0 : Ref sig .tc).ty.Contents (Elt F)) :
    dyM.view.readAt (Elt F) (Rect.unit (s := S512x2048) ![0, 0] S512x2048.size inb_S512x2048_S512x2048_0_0).toLoadRect f = f :=
  Memref.readAt_unit_zero (Elt F) cc0_stg1_0 hz2 _ f

set_option maxHeartbeats 800000 in
theorem part3_ok (w₁ w₂ w₃ : BitVec 32) (f : C8 F)
    (Kt : (Σ' (v75 : FVec F S512x512 .bf16) (v77 : FVec F S512x2048 .bf16), BitVec 32) → sProp 𝕄) :
    iprop(recs m ∗ levAts L lv ∗ ow c (Os c + bT c 7 + bT c 6) ∗ (bTok c 6 ∗ barPay (peer c 6) 6) ∗ (bTok c 7 ∗ barPay (peer c 7) 7)
        ∗ stx m c ∗ sty m c ∗ pcS c Finset.univ f ∗ cred (tallyAt (barCell c) () 7) ∗ atPos ER (barCell c) 0 ∅ 0
        ∗ (∀ v, (ow c (Os c) ∗ stx m c ∗ sty m c ∗ pcS c loSet (PC m c) ∗ (∃ f, pcS c hiSet f) ∗ semVal (barCell c) 0
            ∗ barPay c 1 ∗ barPay c 2 ∗ barPay c 3 ∗ barPay c 4 ∗ barPay c 5 ∗ barPay c 6 ∗ barPay c 7)
            -∗ Kt ⟨k0_pay1 (xs m c), k0_pay2 (dys m c), v⟩))
      ⊢ wp frame (wpE (defs₀ (F := F)) 𝒱₀ (c : Thread nD τ) none) Set.univ
        (k0_part3 xM (Memref.isWhole_whole _) dyM (Memref.isWhole_whole _) oM (Memref.isWhole_whole _) pcM (Memref.isWhole_whole _) rvM (Memref.isWhole_whole _) rlM (Memref.isWhole_whole _)
          cc0_scratch3 cc0_scratch4 cc0_scratch5 cc0_scratch6 c w₁ (SemArray.scalar (sig.barrier 0 rfl)) w₂ w₃) Kt := by
  simp only [k0_part3_eq_skeleton]; unfold k0_part3_skel
  simp only [semSignalWord, semWaitWord, Prog.lift, Prog.bind_op, Prog.bind_ret, Prog.pure_eq_ret]
  unfold bTok stx sty
  iintro ⟨#HR, #Hlev, HO, ⟨Ht1, Hp1⟩, ⟨Ht2, Hp2⟩, Hx, Hy, Hpc, Hcr, Hat, Hk⟩
  iapply (wp_sig m c _ 6 (dev6_eq c _) (by decide) (by decide) _ _ rfl) $$ [HO Ht1 Hp1]
  · isplitr; · iexact HR
    isplitl [HO]; · iexact HO
    isplitl [Ht1] <;> iassumption
  iintro HO
  iapply (wp_sig m c _ 7 (dev7_eq c _) (by decide) (by decide) _ _ rfl) $$ [HO Ht2 Hp2]
  · isplitr; · iexact HR
    isplitl [HO]; · iexact HO
    isplitl [Ht2] <;> iassumption
  iintro HO
  iapply (wp_load 𝒱₀ (c : Thread nD τ) none Set.univ (m := xM) (Finset.subset_univ _)) $$ Hx; iintro Hx
  iapply (wp_load 𝒱₀ (c : Thread nD τ) none Set.univ (m := dyM) (Finset.subset_univ _)) $$ Hy; iintro Hy
  rw [read_xM, read_dyM]
  iapply (wp_load_pc c _ _ rfl inb_S8x64x2048_S4x64x2048_0_0_0 Finset.univ f (Finset.subset_univ _)) $$ Hpc; iintro Hpc
  iapply (wp_store_pc c _ _ rfl inb_S8x64x2048_S4x64x2048_0_0_0 Finset.univ f (Finset.subset_univ _)) $$ Hpc; iintro Hpc
  ihave ⟨Hlo, Hhi⟩ := (pcS_halves c _).1 $$ Hpc
  ihave Hlo := (Entails.of_eq (pcS_congr (PC_lo m c f))) $$ Hlo
  iapply (wp_barWait m c (by decide) (Os c) (above_Os c (by decide))) $$ [HO Hcr Hat]
  · isplitr; · iexact HR
    isplitr; · iexact Hlev
    isplitl [Hcr]; · iexact Hcr
    isplitl [HO] <;> iassumption
  iintro ⟨HO, Hz, Hp⟩
  rw [wp_ret]; imodintro
  iapply Hk
  isplitl [HO]; · iexact HO
  isplitl [Hx]; · iexact Hx
  isplitl [Hy]; · iexact Hy
  isplitl [Hlo]; · iexact Hlo
  isplitl [Hhi]; · iexists _; iexact Hhi
  isplitl [Hz] <;> iassumption

/-! ### What is sent before anything has come: devices of the lower half -/

theorem part4_low (h : c.val < 4) (w₁ w₂ w₃ : BitVec 32) (Kt : PUnit → sProp 𝕄) :
    Kt ⟨⟩ ⊢ wp frame (wpE (defs₀ (F := F)) 𝒱₀ (c : Thread nD τ) none) Set.univ
        (k0_part4 xM (Memref.isWhole_whole _) dyM (Memref.isWhole_whole _) oM (Memref.isWhole_whole _) pcM (Memref.isWhole_whole _) rvM (Memref.isWhole_whole _) rlM (Memref.isWhole_whole _)
          cc0_scratch3 cc0_scratch4 cc0_scratch5 cc0_scratch6 c w₁ w₂ w₃) Kt := by
  obtain ⟨h1, h2, h3, -⟩ := conds_low c h
  simp only [k0_part4_eq_skeleton]; unfold k0_part4_skel
  simp only [dif_neg h1, dif_neg h2, dif_neg h3, Prog.lift, Prog.bind_op, Prog.bind_ret, Prog.pure_eq_ret]
  iintro H; rw [wp_ret]; imodintro; iexact H

set_option maxHeartbeats 800000 in
theorem part5_low (h : c.val < 4) (O : CellTallies nD τ sig Unit) (w₁ : BitVec 32) (Kt : (Σ' (v151 : BitVec 32), BitVec 32) → sProp 𝕄) :
    iprop(recs m ∗ ow c (O + vT c 2 + vT c 1) ∗ (pcS c (slotSet (peer c 1)) (PC2 m c) ∗ DK c 1) ∗ (pcS c (slotSet (peer c 2)) (PC2 m c) ∗ DK c 2)
        ∗ (∀ v, (ow c O ∗ sC c 1 ∗ sC c 2) -∗ Kt v))
      ⊢ wp frame (wpE (defs₀ (F := F)) 𝒱₀ (c : Thread nD τ) none) Set.univ
        (k0_part5 xM (Memref.isWhole_whole _) dyM (Memref.isWhole_whole _) oM (Memref.isWhole_whole _) pcM (Memref.isWhole_whole _) rvM (Memref.isWhole_whole _) rlM (Memref.isWhole_whole _)
          cc0_scratch3 cc0_scratch4 cc0_scratch5 cc0_scratch6 c w₁) Kt := by
  obtain ⟨-, -, -, h4, h5, -⟩ := conds_low c h
  simp only [k0_part5_eq_skeleton]; unfold k0_part5_skel
  simp only [dif_pos h4, dif_pos h5, Prog.lift, Prog.bind_op, Prog.bind_ret, Prog.pure_eq_ret]
  unfold DK dTok sC
  iintro ⟨#HR, HO, ⟨Hs, Hd, HtS, HtR⟩, ⟨Hs', Hd', HtS', HtR'⟩, Hk⟩
  iapply (wp_direct m c _ 1 (dev11_eq c _) (by decide) (by decide) _ _ (snd_sem _ _ (off4_eq c) _ _) (rcv_sem _ _ (k0_off5_eq c) _ _)
    _ _ (pcSlot_of _ _ (off7_eq c) _ _ _) (rvSlot_of _ _ (k0_off6_eq c) _ _ _) _ _ rfl) $$ [HO Hs Hd HtS HtR]
  · isplitr; · iexact HR
    isplitl [Hs]; · iexact Hs
    isplitl [Hd]; · iexact Hd
    isplitl [HO]; · iexact HO
    isplitl [HtS] <;> iassumption
  iintro ⟨Hc1, HO⟩
  iapply (wp_direct m c _ 2 (dev12_eq c _) (by decide) (by decide) _ _ (snd_sem _ _ (off8_eq c) _ _) (rcv_sem _ _ (k0_off9_eq c) _ _)
    _ _ (pcSlot_of _ _ (off11_eq c) _ _ _) (rvSlot_of _ _ (k0_off10_eq c) _ _ _) _ _ rfl) $$ [HO Hs' Hd' HtS' HtR']
  · isplitr; · iexact HR
    isplitl [Hs']; · iexact Hs'
    isplitl [Hd']; · iexact Hd'
    isplitl [HO]; · iexact HO
    isplitl [HtS'] <;> iassumption
  iintro ⟨Hc2, HO⟩
  rw [wp_ret]; imodintro
  iapply Hk
  isplitl [HO]; · iexact HO
  isplitl [Hc1] <;> iassumption

set_option maxHeartbeats 800000 in
theorem part6_low (h : c.val < 4) (O : CellTallies nD τ sig Unit) (w₁ w₂ w₃ w₄ : BitVec 32) (f : C8 F) (Kt : (Σ' (v182 : BitVec 32), BitVec 32) → sProp 𝕄) :
    iprop(recs m ∗ ow c (O + rT c 0) ∗ pcS c hiSet f ∗ RK c 0
        ∗ (∀ v, (ow c O ∗ rC c 0 ∗ pcS c (slotSet (peer c 4)) (PC2 m c) ∗ pcS c (slotSet (peer c 5)) (PC m c) ∗ pcS c (slotSet (peer c 6)) (PC m c)
            ∗ pcS c (colSet (far c) 1) (PC2 m c) ∗ pcS c (colSet (far c) 2) (PC2 m c)) -∗ Kt v))
      ⊢ wp frame (wpE (defs₀ (F := F)) 𝒱₀ (c : Thread nD τ) none) Set.univ
        (k0_part6 xM (Memref.isWhole_whole _) dyM (Memref.isWhole_whole _) oM (Memref.isWhole_whole _) pcM (Memref.isWhole_whole _) rvM (Memref.isWhole_whole _) rlM (Memref.isWhole_whole _)
          cc0_scratch3 cc0_scratch4 cc0_scratch5 cc0_scratch6 c w₁ w₂ (k0_pay1 (xs m c)) (k0_pay2 (dys m c)) w₃ w₄) Kt := by
  obtain ⟨-, -, -, -, -, h6, h7, -⟩ := conds_low c h
  simp only [k0_part6_eq_skeleton]; unfold k0_part6_skel
  simp only [dif_neg h6, dif_pos h7, Prog.lift, Prog.bind_op, Prog.bind_ret, Prog.pure_eq_ret]
  unfold RK rTok rC
  iintro ⟨#HR, HO, Hpc, ⟨Hd, HtS, HtR⟩, Hk⟩
  iapply (wp_load_pc c _ _ rfl inb_S8x64x2048_S4x64x2048_4_0_0 hiSet f hiR_set.subset) $$ Hpc; iintro Hpc
  iapply (wp_store_pc c _ _ rfl inb_S8x64x2048_S4x64x2048_4_0_0 hiSet f hiR_set.subset) $$ Hpc; iintro Hpc
  ihave Hpc := (Entails.of_eq (pcS_congr (PC_hi m c f))) $$ Hpc
  ihave ⟨H4, H5, H6, Hf0, Hf1, Hf2⟩ := (away_slots m c hiSet (hi_away c h)) $$ Hpc
  iapply (wp_relay0 m c _ (dev14_eq c _) _ _ (rs_sem 0 _ rfl _ _) (rr_sem 0 _ rfl _ _)
    _ _ (pcCol0_of _ _ (off16_eq c) _ _ _) rfl _ _ rfl) $$ [HO Hf0 Hd HtS HtR]
  · isplitr; · iexact HR
    isplitl [Hf0]; · iexact Hf0
    isplitl [Hd]; · iexact Hd
    isplitl [HO]; · iexact HO
    isplitl [HtS] <;> iassumption
  iintro ⟨Hc, HO⟩
  rw [wp_ret]; imodintro
  iapply Hk
  isplitl [HO]; · iexact HO
  isplitl [Hc]; · iexact Hc
  isplitl [H4]; · iexact H4
  isplitl [H5]; · iexact H5
  isplitl [H6]; · iexact H6
  isplitl [Hf1] <;> iassumption

set_option maxHeartbeats 800000 in
theorem part7_low (h : c.val < 4) (O : CellTallies nD τ sig Unit) (w₁ w₂ w₃ w₄ : BitVec 32) (Kt : BitVec 32 → sProp 𝕄) :
    iprop(recs m ∗ ow c (O + rT c 2 + rT c 1) ∗ (pcS c (colSet (far c) 1) (PC2 m c) ∗ RK c 1) ∗ (pcS c (colSet (far c) 2) (PC2 m c) ∗ RK c 2)
        ∗ (∀ v, (ow c O ∗ rC c 1 ∗ rC c 2) -∗ Kt v))
      ⊢ wp frame (wpE (defs₀ (F := F)) 𝒱₀ (c : Thread nD τ) none) Set.univ
        (k0_part7 xM (Memref.isWhole_whole _) dyM (Memref.isWhole_whole _) oM (Memref.isWhole_whole _) pcM (Memref.isWhole_whole _) rvM (Memref.isWhole_whole _) rlM (Memref.isWhole_whole _)
          cc0_scratch3 cc0_scratch4 cc0_scratch5 cc0_scratch6 c w₁ w₂ w₃ w₄) Kt := by
  obtain ⟨-, -, -, -, -, -, -, h8, h9, h10, -⟩ := conds_low c h
  simp only [k0_part7_eq_skeleton]; unfold k0_part7_skel
  simp only [dif_pos h8, dif_pos h9, dif_neg h10, Prog.lift, Prog.bind_op, Prog.bind_ret, Prog.pure_eq_ret]
  unfold RK rTok rC
  iintro ⟨#HR, HO, ⟨Hs, Hd, HtS, HtR⟩, ⟨Hs', Hd', HtS', HtR'⟩, Hk⟩
  iapply (wp_relay1 m c _ (dev15_eq c _) _ _ (rs_sem 1 _ rfl _ _) (rr_sem 1 _ rfl _ _)
    _ _ (pcCol1_of _ _ (off17_eq c) _ _ _) rfl _ _ rfl) $$ [HO Hs Hd HtS HtR]
  · isplitr; · iexact HR
    isplitl [Hs]; · iexact Hs
    isplitl [Hd]; · iexact Hd
    isplitl [HO]; · iexact HO
    isplitl [HtS] <;> iassumption
  iintro ⟨Hc1, HO⟩
  iapply (wp_relay2 m c _ (dev16_eq c _) _ _ (rs_sem 2 _ rfl _ _) (rr_sem 2 _ rfl _ _)
    _ _ (pcCol2_of _ _ (off18_eq c) _ _ _) rfl _ _ rfl) $$ [HO Hs' Hd' HtS' HtR']
  · isplitr; · iexact HR
    isplitl [Hs']; · iexact Hs'
    isplitl [Hd']; · iexact Hd'
    isplitl [HO]; · iexact HO
    isplitl [HtS'] <;> iassumption
  iintro ⟨Hc2, HO⟩
  rw [wp_ret]; imodintro
  iapply Hk
  isplitl [HO]; · iexact HO
  isplitl [Hc1] <;> iassumption

/-! ### The same: devices of the upper half -/

set_option maxHeartbeats 1600000 in
theorem part4_high (h : ¬ c.val < 4) (O : CellTallies nD τ sig Unit) (w₁ w₂ w₃ : BitVec 32) (Kt : PUnit → sProp 𝕄) :
    iprop(recs m ∗ ow c (O + rT c 2 + rT c 1 + rT c 0) ∗ (pcS c (colSet (far c) 0) (PC2 m c) ∗ RK c 0)
        ∗ (pcS c (colSet (far c) 1) (PC2 m c) ∗ RK c 1) ∗ (pcS c (colSet (far c) 2) (PC2 m c) ∗ RK c 2)
        ∗ ((ow c O ∗ rC c 0 ∗ rC c 1 ∗ rC c 2) -∗ Kt ⟨⟩))
      ⊢ wp frame (wpE (defs₀ (F := F)) 𝒱₀ (c : Thread nD τ) none) Set.univ
        (k0_part4 xM (Memref.isWhole_whole _) dyM (Memref.isWhole_whole _) oM (Memref.isWhole_whole _) pcM (Memref.isWhole_whole _) rvM (Memref.isWhole_whole _) rlM (Memref.isWhole_whole _)
          cc0_scratch3 cc0_scratch4 cc0_scratch5 cc0_scratch6 c w₁ w₂ w₃) Kt := by
  obtain ⟨h1, h2, h3, -⟩ := conds_high c h
  simp only [k0_part4_eq_skeleton]; unfold k0_part4_skel
  simp only [dif_pos h1, dif_pos h2, dif_pos h3, Prog.lift, Prog.bind_op, Prog.bind_ret, Prog.pure_eq_ret]
  unfold RK rTok rC
  iintro ⟨#HR, HO, ⟨Hs0, Hd0, HtS0, HtR0⟩, ⟨Hs, Hd, HtS, HtR⟩, ⟨Hs', Hd', HtS', HtR'⟩, Hk⟩
  iapply (wp_relay0 m c _ (dev8_eq c _) _ _ (rs_sem 0 _ rfl _ _) (rr_sem 0 _ rfl _ _)
    _ _ (pcCol0_of _ _ (off1_eq c) _ _ _) rfl _ _ rfl) $$ [HO Hs0 Hd0 HtS0 HtR0]
  · isplitr; · iexact HR
    isplitl [Hs0]; · iexact Hs0
    isplitl [Hd0]; · iexact Hd0
    isplitl [HO]; · iexact HO
    isplitl [HtS0] <;> iassumption
  iintro ⟨Hc0, HO⟩
  iapply (wp_relay1 m c _ (dev9_eq c _) _ _ (rs_sem 1 _ rfl _ _) (rr_sem 1 _ rfl _ _)
    _ _ (pcCol1_of _ _ (off2_eq c) _ _ _) rfl _ _ rfl) $$ [HO Hs Hd HtS HtR]
  · isplitr; · iexact HR
    isplitl [Hs]; · iexact Hs
    isplitl [Hd]; · iexact Hd
    isplitl [HO]; · iexact HO
    isplitl [HtS] <;> iassumption
  iintro ⟨Hc1, HO⟩
  iapply (wp_relay2 m c _ (dev10_eq c _) _ _ (rs_sem 2 _ rfl _ _) (rr_sem 2 _ rfl _ _)
    _ _ (pcCol2_of _ _ (off3_eq c) _ _ _) rfl _ _ rfl) $$ [HO Hs' Hd' HtS' HtR']
  · isplitr; · iexact HR
    isplitl [Hs']; · iexact Hs'
    isplitl [Hd']; · iexact Hd'
    isplitl [HO]; · iexact HO
    isplitl [HtS'] <;> iassumption
  iintro ⟨Hc2, HO⟩
  rw [wp_ret]; imodintro
  iapply Hk
  isplitl [HO]; · iexact HO
  isplitl [Hc0]; · iexact Hc0
  isplitl [Hc1] <;> iassumption

theorem part5_high (h : ¬ c.val < 4) (w₁ : BitVec 32) (Kt : (Σ' (v151 : BitVec 32), BitVec 32) → sProp 𝕄) :
    iprop(∀ v, Kt v) ⊢ wp frame (wpE (defs₀ (F := F)) 𝒱₀ (c : Thread nD τ) none) Set.univ
        (k0_part5 xM (Memref.isWhole_whole _) dyM (Memref.isWhole_whole _) oM (Memref.isWhole_whole _) pcM (Memref.isWhole_whole _) rvM (Memref.isWhole_whole _) rlM (Memref.isWhole_whole _)
          cc0_scratch3 cc0_scratch4 cc0_scratch5 cc0_scratch6 c w₁) Kt := by
  obtain ⟨-, -, -, h4, h5, -⟩ := conds_high c h
  simp only [k0_part5_eq_skeleton]; unfold k0_part5_skel
  simp only [dif_neg h4, dif_neg h5, Prog.lift, Prog.bind_op, Prog.bind_ret, Prog.pure_eq_ret]
  iintro H; rw [wp_ret]; imodintro; iapply H

set_option maxHeartbeats 800000 in
theorem part6_high (h : ¬ c.val < 4) (O : CellTallies nD τ sig Unit) (w₁ w₂ w₃ w₄ : BitVec 32) (f : C8 F) (Kt : (Σ' (v182 : BitVec 32), BitVec 32) → sProp 𝕄) :
    iprop(recs m ∗ ow c (O + vT c 4) ∗ (pcS c (slotSet (peer c 4)) (PC2 m c) ∗ DK c 4) ∗ pcS c hiSet f
        ∗ (∀ v, (ow c O ∗ sC c 4 ∗ pcS c (slotSet (peer c 0)) (PC2 m c) ∗ pcS c (slotSet (peer c 1)) (PC2 m c) ∗ pcS c (slotSet (peer c 2)) (PC2 m c)
            ∗ pcS c (slotSet (peer c 3)) (PC m c)) -∗ Kt v))
      ⊢ wp frame (wpE (defs₀ (F := F)) 𝒱₀ (c : Thread nD τ) none) Set.univ
        (k0_part6 xM (Memref.isWhole_whole _) dyM (Memref.isWhole_whole _) oM (Memref.isWhole_whole _) pcM (Memref.isWhole_whole _) rvM (Memref.isWhole_whole _) rlM (Memref.isWhole_whole _)
          cc0_scratch3 cc0_scratch4 cc0_scratch5 cc0_scratch6 c w₁ w₂ (k0_pay1 (xs m c)) (k0_pay2 (dys m c)) w₃ w₄) Kt := by
  obtain ⟨-, -, -, -, -, h6, h7, -⟩ := conds_high c h
  simp only [k0_part6_eq_skeleton]; unfold k0_part6_skel
  simp only [dif_pos h6, dif_neg h7, Prog.lift, Prog.bind_op, Prog.bind_ret, Prog.pure_eq_ret]
  unfold DK dTok sC
  iintro ⟨#HR, HO, ⟨Hs, Hd, HtS, HtR⟩, Hpc, Hk⟩
  iapply (wp_direct m c _ 4 (dev13_eq c _) (by decide) (by decide) _ _ (snd_sem _ _ (off12_eq c) _ _) (rcv_sem _ _ (k0_off13_eq c) _ _)
    _ _ (pcSlot_of _ _ (off15_eq c) _ _ _) (rvSlot_of _ _ (k0_off14_eq c) _ _ _) _ _ rfl) $$ [HO Hs Hd HtS HtR]
  · isplitr; · iexact HR
    isplitl [Hs]; · iexact Hs
    isplitl [Hd]; · iexact Hd
    isplitl [HO]; · iexact HO
    isplitl [HtS] <;> iassumption
  iintro ⟨Hc, HO⟩
  iapply (wp_load_pc c _ _ rfl inb_S8x64x2048_S4x64x2048_4_0_0 hiSet f hiR_set.subset) $$ Hpc; iintro Hpc
  iapply (wp_store_pc c _ _ rfl inb_S8x64x2048_S4x64x2048_4_0_0 hiSet f hiR_set.subset) $$ Hpc; iintro Hpc
  ihave Hpc := (Entails.of_eq (pcS_congr (PC_hi m c f))) $$ Hpc
  ihave Hpc := (near_slots m c hiSet (hi_near c h)) $$ Hpc
  rw [wp_ret]; imodintro
  iapply Hk
  isplitl [HO]; · iexact HO
  isplitl [Hc] <;> iassumption

set_option maxHeartbeats 800000 in
theorem part7_high (h : ¬ c.val < 4) (O : CellTallies nD τ sig Unit) (w₁ w₂ w₃ w₄ : BitVec 32) (Kt : BitVec 32 → sProp 𝕄) :
    iprop(recs m ∗ ow c (O + vT c 1) ∗ (pcS c (slotSet (peer c 1)) (PC2 m c) ∗ DK c 1) ∗ (∀ v, (ow c O ∗ sC c 1) -∗ Kt v))
      ⊢ wp frame (wpE (defs₀ (F := F)) 𝒱₀ (c : Thread nD τ) none) Set.univ
        (k0_part7 xM (Memref.isWhole_whole _) dyM (Memref.isWhole_whole _) oM (Memref.isWhole_whole _) pcM (Memref.isWhole_whole _) rvM (Memref.isWhole_whole _) rlM (Memref.isWhole_whole _)
          cc0_scratch3 cc0_scratch4 cc0_scratch5 cc0_scratch6 c w₁ w₂ w₃ w₄) Kt := by
  obtain ⟨-, -, -, -, -, -, -, h8, h9, h10, -⟩ := conds_high c h
  simp only [k0_part7_eq_skeleton]; unfold k0_part7_skel
  simp only [dif_neg h8, dif_neg h9, dif_pos h10, Prog.lift, Prog.bind_op, Prog.bind_ret, Prog.pure_eq_ret]
  unfold DK dTok sC
  iintro ⟨#HR, HO, ⟨Hs, Hd, HtS, HtR⟩, Hk⟩
  iapply (wp_direct m c _ 1 (dev17_eq c _) (by decide) (by decide) _ _ (snd_sem _ _ (off19_eq c) _ _) (rcv_sem _ _ (k0_off20_eq c) _ _)
    _ _ (pcSlot_of _ _ (off22_eq c) _ _ _) (rvSlot_of _ _ (k0_off21_eq c) _ _ _) _ _ rfl) $$ [HO Hs Hd HtS HtR]
  · isplitr; · iexact HR
    isplitl [Hs]; · iexact Hs
    isplitl [Hd]; · iexact Hd
    isplitl [HO]; · iexact HO
    isplitl [HtS] <;> iassumption
  iintro ⟨Hc, HO⟩
  rw [wp_ret]; imodintro
  iapply Hk
  isplitl [HO] <;> iassumption

/-! ### The last of the early sends, and the two slots a device fills itself -/

set_option maxHeartbeats 1600000 in
theorem part8_ok (o : Fin 8) (ho : (c.val < 4 ∧ o = 4) ∨ (¬ c.val < 4 ∧ o = 2)) (O : CellTallies nD τ sig Unit) (w₁ w₂ w₃ : BitVec 32) (f g : C8 F)
    (Kt : (Σ' (v250 : BitVec 32) (v251 : BitVec 32), BitVec 32) → sProp 𝕄) :
    iprop(recs m ∗ ow c (O + vT c o) ∗ (pcS c (slotSet (peer c o)) (PC2 m c) ∗ DK c o) ∗ pcS c (slotSet (peer c 0)) (PC2 m c)
        ∗ rvS c (slotSet (far c)) f ∗ rvS c (slotSet (peer c 0)) g
        ∗ (∀ v, (ow c O ∗ sC c o ∗ pcS c (slotSet (peer c 0)) (PC2 m c) ∗ rvS c (slotSet (far c)) (RC m c) ∗ rvS c (slotSet (peer c 0)) (RC m c)) -∗ Kt v))
      ⊢ wp frame (wpE (defs₀ (F := F)) 𝒱₀ (c : Thread nD τ) none) Set.univ
        (k0_part8 xM (Memref.isWhole_whole _) dyM (Memref.isWhole_whole _) oM (Memref.isWhole_whole _) pcM (Memref.isWhole_whole _) rvM (Memref.isWhole_whole _) rlM (Memref.isWhole_whole _)
          cc0_scratch3 cc0_scratch4 cc0_scratch5 cc0_scratch6 c w₁ w₂ w₃) Kt := by
  have hown : ∀ i ∈ slotSet c, PC2 m c i = PC m c i := fun i hi =>
    PC2_of m c 0 (by decide) (by decide) (by decide) i (by rw [peer_zero]; exact hi)
  simp only [k0_part8_eq_skeleton]; unfold k0_part8_skel
  unfold DK dTok sC
  rcases ho with ⟨h, rfl⟩ | ⟨h, rfl⟩
  case' inl =>
    obtain ⟨-, -, -, -, -, -, -, -, -, -, h11, h12⟩ := conds_low c h
    simp only [dif_neg h11, dif_pos h12, Prog.lift, Prog.bind_op, Prog.bind_ret, Prog.pure_eq_ret]
    iintro ⟨#HR, HO, ⟨Hs, Hd, HtS, HtR⟩, Hpc, Hf, Hg, Hk⟩
    iapply (wp_direct m c _ 4 (dev19_eq c _) (by decide) (by decide) _ _ (snd_sem _ _ (off27_eq c) _ _) (rcv_sem _ _ (k0_off28_eq c) _ _)
      _ _ (pcSlot_of _ _ (off30_eq c) _ _ _) (rvSlot_of _ _ (k0_off29_eq c) _ _ _) _ _ rfl) $$ [HO Hs Hd HtS HtR]
  case' inr =>
    obtain ⟨-, -, -, -, -, -, -, -, -, -, h11, h12⟩ := conds_high c h
    simp only [dif_pos h11, dif_neg h12, Prog.lift, Prog.bind_op, Prog.bind_ret, Prog.pure_eq_ret]
    iintro ⟨#HR, HO, ⟨Hs, Hd, HtS, HtR⟩, Hpc, Hf, Hg, Hk⟩
    iapply (wp_direct m c _ 2 (dev18_eq c _) (by decide) (by decide) _ _ (snd_sem _ _ (off23_eq c) _ _) (rcv_sem _ _ (k0_off24_eq c) _ _)
      _ _ (pcSlot_of _ _ (off26_eq c) _ _ _) (rvSlot_of _ _ (k0_off25_eq c) _ _ _) _ _ rfl) $$ [HO Hs Hd HtS HtR]
  all_goals
    first
    | (isplitr; · iexact HR
       isplitl [Hs]; · iexact Hs
       isplitl [Hd]; · iexact Hd
       isplitl [HO]; · iexact HO
       isplitl [HtS] <;> iassumption)
    | (iintro ⟨Hc, HO⟩
       rw [peer_zero]
       iapply (wp_load_rv c _ _ (off31_eq c) (slot_inb (far c)) _ f (slotR_set (far c)).subset) $$ Hf; iintro Hf
       iapply (wp_store_rv c _ _ (off31_eq c) (slot_inb (far c)) _ f (slotR_set (far c)).subset) $$ Hf; iintro Hf
       iapply (wp_load_pc c _ _ (k0_off32_eq c) (slot_inb c) _ (PC2 m c) (slotR_set c).subset) $$ Hpc; iintro Hpc
       iapply (wp_load_rv c _ _ (k0_off32_eq c) (slot_inb c) _ g (slotR_set c).subset) $$ Hg; iintro Hg
       iapply (wp_store_rv c _ _ (k0_off32_eq c) (slot_inb c) _ g (slotR_set c).subset) $$ Hg; iintro Hg
       ihave Hf := (Entails.of_eq (rvS_congr (RC_far m c f))) $$ Hf
       ihave Hg := (Entails.of_eq (rvS_congr (RC_own m c g (PC2 m c) hown))) $$ Hg
       rw [wp_ret]; imodintro
       iapply Hk
       isplitl [HO]; · iexact HO
       isplitl [Hc]; · iexact Hc
       isplitl [Hpc]; · iexact Hpc
       isplitl [Hf] <;> iassumption)

end Pieces

end Cert.KernelProof

end
-- ==== Proof.Second.lean ====
/-
# The exchange of device blocks: the second half of the body

What came to be passed on is added to the slots it is passed on in, and those are sent; then a device waits for what is
meant for it, adds it up, and waits until all it sent has left.
-/
module

public import proofs.«01_k».proof.Proof.First

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What a wait needs, and leaves. -/
def vC (c : Dev nD) (o : Fin 8) : sProp 𝕄 := cred (tallyAt (dmaCell c (rcvS (peer c o))) () N)
def lC (c : Dev nD) (d : Fin 3) : sProp 𝕄 := cred (tallyAt (dmaCell c (rrS d)) () (Nr d))
def aP (c : Dev nD) (s : DmaSem sig) : sProp 𝕄 := atPos ER (dmaCell c s) 0 ∅ 0
def zS (c : Dev nD) (s : DmaSem sig) : sProp 𝕄 := semVal (dmaCell c s) 0

theorem o34_1 (c : Dev nD) : k0_off34 c 1#32 = ![(peer c 1).val] := off34_eq c 0
theorem o34_2 (c : Dev nD) : k0_off34 c 2#32 = ![(peer c 2).val] := off34_eq c 1
theorem o34_3 (c : Dev nD) : k0_off34 c 3#32 = ![(peer c 3).val] := off34_eq c 2
theorem o34_4 (c : Dev nD) : k0_off34 c 4#32 = ![(peer c 4).val] := off34_eq c 3
theorem o34_5 (c : Dev nD) : k0_off34 c 5#32 = ![(peer c 5).val] := off34_eq c 4
theorem o34_6 (c : Dev nD) : k0_off34 c 6#32 = ![(peer c 6).val] := off34_eq c 5
theorem o37_1 (c : Dev nD) : k0_off37 c 1#32 = ![(peer c 1).val, 0, 0] := off37_eq c 0
theorem o37_2 (c : Dev nD) : k0_off37 c 2#32 = ![(peer c 2).val, 0, 0] := off37_eq c 1
theorem o37_3 (c : Dev nD) : k0_off37 c 3#32 = ![(peer c 3).val, 0, 0] := off37_eq c 2
theorem o37_4 (c : Dev nD) : k0_off37 c 4#32 = ![(peer c 4).val, 0, 0] := off37_eq c 3
theorem o37_5 (c : Dev nD) : k0_off37 c 5#32 = ![(peer c 5).val, 0, 0] := off37_eq c 4
theorem o37_6 (c : Dev nD) : k0_off37 c 6#32 = ![(peer c 6).val, 0, 0] := off37_eq c 5

section Pieces
variable (c : Dev nD)

/-! ### The four kinds of wait -/

section Waits
variable {α : Type} {k : PUnit → Prog (TpuEff nD τ sig (Elt F) Λ₀ .tc) α}

theorem wp_rrWait {Q : α → sProp 𝕄} (d : Fin 3) (t : DmaSem sig) (ht : t = rrS d)
    {ks kd : Space} {s₁ s₂ : Shape} {e₁ e₂ : EltTy} {src : Memref sig .tc ks s₁ e₁} {dst : Memref sig .tc kd s₂ e₂} {hs hd}
    (hcr : dst.view.dmaCredit = Nr d) (O : CellTallies nD τ sig Unit) (hA : Above 2 O) :
    iprop(recs m ∗ levAts L lv ∗ lC c d ∗ ow c O ∗ aP c (rrS d))
      ⊢ iprop((ow c O ∗ zS c (rrS d) ∗ rlS c (rlSet d) (RL m d c) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 t src dst hs hd) k) Q) :=
  wp_dmaWait m c (rrS d) t ht (by show 3 ≤ 22 + d.val; omega) (used_rr c d) (Nr d) (amount_rr m c d 0) _ (payload_rr m c d 0) hcr O
    (by rw [lvs_rr]; exact hA)

theorem wp_rcvWait {Q : α → sProp 𝕄} (o : Fin 8) (h0 : o ≠ 0) (h7 : o ≠ 7) (t : DmaSem sig) (ht : t = rcvS (peer c o))
    {ks kd : Space} {s₁ s₂ : Shape} {e₁ e₂ : EltTy} {src : Memref sig .tc ks s₁ e₁} {dst : Memref sig .tc kd s₂ e₂} {hs hd}
    (hcr : dst.view.dmaCredit = N) :
    iprop(recs m ∗ levAts L lv ∗ vC c o ∗ ow c 0 ∗ aP c (rcvS (peer c o)))
      ⊢ iprop((ow c 0 ∗ zS c (rcvS (peer c o)) ∗ rvS c (slotSet (peer c o)) (RC m c) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 t src dst hs hd) k) Q) :=
  wp_dmaWait m c (rcvS (peer c o)) t ht (by show 3 ≤ 11 + _; omega) (used_rcv c h0 h7) N (amount_rcv m c _ 0) _ (payload_rcv m c _ 0) hcr 0
    (above_zero _)

theorem wp_sndWait {Q : α → sProp 𝕄} (o : Fin 8) (h0 : o ≠ 0) (h7 : o ≠ 7) (t : DmaSem sig) (ht : t = sndS (peer c o))
    {ks kd : Space} {s₁ s₂ : Shape} {e₁ e₂ : EltTy} {src : Memref sig .tc ks s₁ e₁} {dst : Memref sig .tc kd s₂ e₂} {hs hd}
    (hcr : dst.view.dmaCredit = N) :
    iprop(recs m ∗ levAts L lv ∗ sC c o ∗ ow c 0 ∗ aP c (sndS (peer c o)))
      ⊢ iprop((ow c 0 ∗ zS c (sndS (peer c o)) ∗ pcS c (slotSet (peer c o)) (PC2 m c) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 t src dst hs hd) k) Q) :=
  wp_dmaWait m c (sndS (peer c o)) t ht (by show 3 ≤ 3 + _; omega) (used_snd c h0 h7) N (amount_snd m c _ 0) _ (payload_snd m c _ 0) hcr 0
    (above_zero _)

theorem wp_rsWait {Q : α → sProp 𝕄} (d : Fin 3) (t : DmaSem sig) (ht : t = rsS d)
    {ks kd : Space} {s₁ s₂ : Shape} {e₁ e₂ : EltTy} {src : Memref sig .tc ks s₁ e₁} {dst : Memref sig .tc kd s₂ e₂} {hs hd}
    (hcr : dst.view.dmaCredit = Nr d) :
    iprop(recs m ∗ levAts L lv ∗ rC c d ∗ ow c 0 ∗ aP c (rsS d))
      ⊢ iprop((ow c 0 ∗ zS c (rsS d) ∗ pcS c (colSet (far c) d) (PC2 m c) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 t src dst hs hd) k) Q) :=
  wp_dmaWait m c (rsS d) t ht (by show 3 ≤ 19 + d.val; omega) (used_rs c d) (Nr d) (amount_rs m c d 0) _ (payload_rs m c d 0) hcr 0
    (above_zero _)

end Waits

/-! ### What came for passing on -/

theorem passed_6 : (pcS c (slotSet (peer c 6)) ((pcM.access (col0R (peer c 6))).write (Elt F) (PC m c)
      (k0_pay7 ((pcM.access (col0R (peer c 6))).read (Elt F) (PC m c)) ((rlM.access rl0R).read (Elt F) (RL m 0 c))) Finset.univ) : sProp 𝕄)
    ⊢ pcS c (slotSet (peer c 6)) (PC2 m c) :=
  Entails.of_eq (pcS_congr fun i hi => (PC2_6 m c i hi).symm)
theorem passed_5 : (pcS c (slotSet (peer c 5)) ((pcM.access (col1R (peer c 5))).write (Elt F) (PC m c)
      (k0_pay9 (k0_pay8 ((pcM.access (col1R (peer c 5))).read (Elt F) (PC m c)) ((rlM.access rl1R).read (Elt F) (RL m 1 c)))) Finset.univ) : sProp 𝕄)
    ⊢ pcS c (slotSet (peer c 5)) (PC2 m c) :=
  Entails.of_eq (pcS_congr fun i hi => (PC2_5 m c i hi).symm)
theorem passed_3 : (pcS c (slotSet (peer c 3)) ((pcM.access (col2R (peer c 3))).write (Elt F) (PC m c)
      (k0_pay10 ((pcM.access (col2R (peer c 3))).read (Elt F) (PC m c)) ((rlM.access rl2R).read (Elt F) (RL m 2 c))) Finset.univ) : sProp 𝕄)
    ⊢ pcS c (slotSet (peer c 3)) (PC2 m c) :=
  Entails.of_eq (pcS_congr fun i hi => (PC2_3 m c i hi).symm)

set_option maxHeartbeats 800000 in
theorem part9_ok (w₁ w₂ w₃ w₄ : BitVec 32) (Kt : PUnit → sProp 𝕄) :
    iprop(recs m ∗ levAts L lv ∗ ow c (Ov c) ∗ lC c 0 ∗ aP c (rrS 0) ∗ pcS c (slotSet (peer c 6)) (PC m c)
        ∗ ((ow c (Ov c) ∗ zS c (rrS 0) ∗ rlS c (rlSet 0) (RL m 0 c) ∗ pcS c (slotSet (peer c 6)) (PC2 m c)) -∗ Kt ⟨⟩))
      ⊢ wp frame (wpE (defs₀ (F := F)) 𝒱₀ (c : Thread nD τ) none) Set.univ
        (k0_part9 xM (Memref.isWhole_whole _) dyM (Memref.isWhole_whole _) oM (Memref.isWhole_whole _) pcM (Memref.isWhole_whole _) rvM (Memref.isWhole_whole _) rlM (Memref.isWhole_whole _)
          cc0_scratch3 cc0_scratch4 cc0_scratch5 cc0_scratch6 c w₁ w₂ w₃ w₄) Kt := by
  simp only [k0_part9_eq_skeleton]; unfold k0_part9_skel
  simp only [Prog.lift, Prog.bind_op, Prog.bind_ret, Prog.pure_eq_ret]
  iintro ⟨#HR, #Hlev, HO, Hcr, Hat, Hpc, Hk⟩
  iapply (wp_rrWait m c 0 _ (rr_sem 0 _ rfl _ _) (by rfl) _ (above_Ov c (by decide))) $$ [HO Hcr Hat]
  · isplitr; · iexact HR
    isplitr; · iexact Hlev
    isplitl [Hcr]; · iexact Hcr
    isplitl [HO] <;> iassumption
  iintro ⟨HO, Hz, Hrl⟩
  iapply (wp_load_pc c _ _ (off33_eq c) (col0_inb (peer c 6)) _ (PC m c) ((col0R_set (peer c 6)).subset.trans col_slot)) $$ Hpc; iintro Hpc
  iapply (wp_load_rl c _ _ rfl inb_S3x64x768_S1x64x768_0_0_0 _ (RL m 0 c) rl0R_set.subset) $$ Hrl; iintro Hrl
  iapply (wp_load_pc c _ _ (off33_eq c) (col0_inb (peer c 6)) _ (PC m c) ((col0R_set (peer c 6)).subset.trans col_slot)) $$ Hpc; iintro Hpc
  iapply (wp_store_pc c _ _ (off33_eq c) (col0_inb (peer c 6)) _ (PC m c) ((col0R_set (peer c 6)).subset.trans col_slot)) $$ Hpc; iintro Hpc
  ihave Hpc := (passed_6 m c) $$ Hpc
  rw [wp_ret]; imodintro
  iapply Hk
  isplitl [HO]; · iexact HO
  isplitl [Hz]; · iexact Hz
  isplitl [Hrl] <;> iassumption

set_option maxHeartbeats 800000 in
theorem part10_ok (w₁ : BitVec 32) (Kt : (Σ' (v308 : BitVec 32), FVec F S1x64x768 .bf16) → sProp 𝕄) :
    iprop(recs m ∗ levAts L lv ∗ ow c (Ov c) ∗ (pcS c (slotSet (peer c 6)) (PC2 m c) ∗ DK c 6) ∗ lC c 1 ∗ aP c (rrS 1) ∗ pcS c (slotSet (peer c 5)) (PC m c)
        ∗ (∀ v, (ow c (vT c 3 + vT c 5) ∗ sC c 6 ∗ zS c (rrS 1) ∗ rlS c (rlSet 1) (RL m 1 c) ∗ pcS c (slotSet (peer c 5)) (PC m c))
          -∗ Kt ⟨v, k0_pay8 ((pcM.access (col1R (peer c 5))).read (Elt F) (PC m c)) ((rlM.access rl1R).read (Elt F) (RL m 1 c))⟩))
      ⊢ wp frame (wpE (defs₀ (F := F)) 𝒱₀ (c : Thread nD τ) none) Set.univ
        (k0_part10 xM (Memref.isWhole_whole _) dyM (Memref.isWhole_whole _) oM (Memref.isWhole_whole _) pcM (Memref.isWhole_whole _) rvM (Memref.isWhole_whole _) rlM (Memref.isWhole_whole _)
          cc0_scratch3 cc0_scratch4 cc0_scratch5 cc0_scratch6 c w₁) Kt := by
  simp only [k0_part10_eq_skeleton]; unfold k0_part10_skel
  simp only [Prog.lift, Prog.bind_op, Prog.bind_ret, Prog.pure_eq_ret]
  unfold DK dTok sC Ov
  iintro ⟨#HR, #Hlev, HO, ⟨Hs, Hd, HtS, HtR⟩, Hcr, Hat, Hpc, Hk⟩
  iapply (wp_direct m c _ 6 (dev20_eq c _) (by decide) (by decide) _ _ (snd_sem _ _ (o34_6 c) _ _) (rcv_sem _ _ (k0_off35_eq c) _ _)
    _ _ (pcSlot_of _ _ (o37_6 c) _ _ _) (rvSlot_of _ _ (k0_off36_eq c) _ _ _) _ _ rfl) $$ [HO Hs Hd HtS HtR]
  · isplitr; · iexact HR
    isplitl [Hs]; · iexact Hs
    isplitl [Hd]; · iexact Hd
    isplitl [HO]; · iexact HO
    isplitl [HtS] <;> iassumption
  iintro ⟨Hc, HO⟩
  iapply (wp_rrWait m c 1 _ (rr_sem 1 _ rfl _ _) (by rfl) _ (above_add (above_vT _ _ (by decide)) (above_vT _ _ (by decide)))) $$ [HO Hcr Hat]
  · isplitr; · iexact HR
    isplitr; · iexact Hlev
    isplitl [Hcr]; · iexact Hcr
    isplitl [HO] <;> iassumption
  iintro ⟨HO, Hz, Hrl⟩
  iapply (wp_load_pc c _ _ (off38_eq c) (col1_inb (peer c 5)) _ (PC m c) ((col1R_set (peer c 5)).subset.trans col_slot)) $$ Hpc; iintro Hpc
  iapply (wp_load_rl c _ _ rfl inb_S3x64x768_S1x64x768_1_0_0 _ (RL m 1 c) rl1R_set.subset) $$ Hrl; iintro Hrl
  rw [wp_ret]; imodintro
  iapply Hk
  isplitl [HO]; · iexact HO
  isplitl [Hc]; · iexact Hc
  isplitl [Hz]; · iexact Hz
  isplitl [Hrl] <;> iassumption

set_option maxHeartbeats 800000 in
theorem part11_ok (w₁ w₂ : BitVec 32) (Kt : BitVec 32 → sProp 𝕄) :
    iprop(recs m ∗ levAts L lv ∗ ow c (vT c 3 + vT c 5) ∗ (pcS c (slotSet (peer c 5)) (PC m c) ∗ DK c 5) ∗ lC c 2 ∗ aP c (rrS 2)
        ∗ (∀ v, (ow c (vT c 3) ∗ sC c 5 ∗ zS c (rrS 2) ∗ rlS c (rlSet 2) (RL m 2 c)) -∗ Kt v))
      ⊢ wp frame (wpE (defs₀ (F := F)) 𝒱₀ (c : Thread nD τ) none) Set.univ
        (k0_part11 xM (Memref.isWhole_whole _) dyM (Memref.isWhole_whole _) oM (Memref.isWhole_whole _) pcM (Memref.isWhole_whole _) rvM (Memref.isWhole_whole _) rlM (Memref.isWhole_whole _)
          cc0_scratch3 cc0_scratch4 cc0_scratch5 cc0_scratch6 c w₁ w₂
          (k0_pay8 ((pcM.access (col1R (peer c 5))).read (Elt F) (PC m c)) ((rlM.access rl1R).read (Elt F) (RL m 1 c)))) Kt := by
  simp only [k0_part11_eq_skeleton]; unfold k0_part11_skel
  simp only [Prog.lift, Prog.bind_op, Prog.bind_ret, Prog.pure_eq_ret]
  unfold DK dTok sC
  iintro ⟨#HR, #Hlev, HO, ⟨Hpc, Hd, HtS, HtR⟩, Hcr, Hat, Hk⟩
  iapply (wp_load_pc c _ _ (off38_eq c) (col1_inb (peer c 5)) _ (PC m c) ((col1R_set (peer c 5)).subset.trans col_slot)) $$ Hpc; iintro Hpc
  iapply (wp_store_pc c _ _ (off38_eq c) (col1_inb (peer c 5)) _ (PC m c) ((col1R_set (peer c 5)).subset.trans col_slot)) $$ Hpc; iintro Hpc
  ihave Hpc := (passed_5 m c) $$ Hpc
  iapply (wp_direct m c _ 5 (dev21_eq c _) (by decide) (by decide) _ _ (snd_sem _ _ (o34_5 c) _ _) (rcv_sem _ _ (k0_off35_eq c) _ _)
    _ _ (pcSlot_of _ _ (o37_5 c) _ _ _) (rvSlot_of _ _ (k0_off36_eq c) _ _ _) _ _ rfl) $$ [HO Hpc Hd HtS HtR]
  · isplitr; · iexact HR
    isplitl [Hpc]; · iexact Hpc
    isplitl [Hd]; · iexact Hd
    isplitl [HO]; · iexact HO
    isplitl [HtS] <;> iassumption
  iintro ⟨Hc, HO⟩
  iapply (wp_rrWait m c 2 _ (rr_sem 2 _ rfl _ _) (by rfl) _ (above_vT _ _ (by decide))) $$ [HO Hcr Hat]
  · isplitr; · iexact HR
    isplitr; · iexact Hlev
    isplitl [Hcr]; · iexact Hcr
    isplitl [HO] <;> iassumption
  iintro ⟨HO, Hz, Hrl⟩
  rw [wp_ret]; imodintro
  iapply Hk
  isplitl [HO]; · iexact HO
  isplitl [Hc]; · iexact Hc
  isplitl [Hz] <;> iassumption

set_option maxHeartbeats 800000 in
theorem part12_ok (w₁ w₂ : BitVec 32) (Kt : PUnit → sProp 𝕄) :
    iprop(recs m ∗ ow c (vT c 3) ∗ (pcS c (slotSet (peer c 3)) (PC m c) ∗ DK c 3) ∗ rlS c (rlSet 2) (RL m 2 c)
        ∗ ((ow c 0 ∗ sC c 3 ∗ rlS c (rlSet 2) (RL m 2 c)) -∗ Kt ⟨⟩))
      ⊢ wp frame (wpE (defs₀ (F := F)) 𝒱₀ (c : Thread nD τ) none) Set.univ
        (k0_part12 xM (Memref.isWhole_whole _) dyM (Memref.isWhole_whole _) oM (Memref.isWhole_whole _) pcM (Memref.isWhole_whole _) rvM (Memref.isWhole_whole _) rlM (Memref.isWhole_whole _)
          cc0_scratch3 cc0_scratch4 cc0_scratch5 cc0_scratch6 c w₁ w₂) Kt := by
  simp only [k0_part12_eq_skeleton]; unfold k0_part12_skel
  simp only [Prog.lift, Prog.bind_op, Prog.bind_ret, Prog.pure_eq_ret]
  unfold DK dTok sC
  iintro ⟨#HR, HO, ⟨Hpc, Hd, HtS, HtR⟩, Hrl, Hk⟩
  iapply (wp_load_pc c _ _ (off39_eq c) (col2_inb (peer c 3)) _ (PC m c) ((col2R_set (peer c 3)).subset.trans col_slot)) $$ Hpc; iintro Hpc
  iapply (wp_load_rl c _ _ rfl inb_S3x64x768_S1x64x512_2_0_0 _ (RL m 2 c) rl2R_set.subset) $$ Hrl; iintro Hrl
  iapply (wp_load_pc c _ _ (off39_eq c) (col2_inb (peer c 3)) _ (PC m c) ((col2R_set (peer c 3)).subset.trans col_slot)) $$ Hpc; iintro Hpc
  iapply (wp_store_pc c _ _ (off39_eq c) (col2_inb (peer c 3)) _ (PC m c) ((col2R_set (peer c 3)).subset.trans col_slot)) $$ Hpc; iintro Hpc
  ihave Hpc := (passed_3 m c) $$ Hpc
  iapply (wp_direct m c _ 3 (dev22_eq c _) (by decide) (by decide) _ _ (snd_sem _ _ (o34_3 c) _ _) (rcv_sem _ _ (k0_off35_eq c) _ _)
    _ _ (pcSlot_of _ _ (o37_3 c) _ _ _) (rvSlot_of _ _ (k0_off36_eq c) _ _ _) _ _ (zero_add _).symm) $$ [HO Hpc Hd HtS HtR]
  · isplitr; · iexact HR
    isplitl [Hpc]; · iexact Hpc
    isplitl [Hd]; · iexact Hd
    isplitl [HO]; · iexact HO
    isplitl [HtS] <;> iassumption
  iintro ⟨Hc, HO⟩
  rw [wp_ret]; imodintro
  iapply Hk
  isplitl [HO]; · iexact HO
  isplitl [Hc] <;> iassumption

/-! ### What is meant for this device -/

set_option maxHeartbeats 800000 in
theorem part13_ok (w₁ : BitVec 32) (Kt : BitVec 32 → sProp 𝕄) :
    iprop(recs m ∗ levAts L lv ∗ ow c 0 ∗ (vC c 1 ∗ aP c (rcvS (peer c 1))) ∗ (vC c 2 ∗ aP c (rcvS (peer c 2))) ∗ (vC c 4 ∗ aP c (rcvS (peer c 4)))
        ∗ (∀ v, (ow c 0 ∗ (zS c (rcvS (peer c 1)) ∗ rvS c (slotSet (peer c 1)) (RC m c)) ∗ (zS c (rcvS (peer c 2)) ∗ rvS c (slotSet (peer c 2)) (RC m c)) ∗ (zS c (rcvS (peer c 4)) ∗ rvS c (slotSet (peer c 4)) (RC m c))) -∗ Kt v))
      ⊢ wp frame (wpE (defs₀ (F := F)) 𝒱₀ (c : Thread nD τ) none) Set.univ
        (k0_part13 xM (Memref.isWhole_whole _) dyM (Memref.isWhole_whole _) oM (Memref.isWhole_whole _) pcM (Memref.isWhole_whole _) rvM (Memref.isWhole_whole _) rlM (Memref.isWhole_whole _)
          cc0_scratch3 cc0_scratch4 cc0_scratch5 cc0_scratch6 c w₁) Kt := by
  simp only [k0_part13_eq_skeleton]; unfold k0_part13_skel
  simp only [Prog.lift, Prog.bind_op, Prog.bind_ret, Prog.pure_eq_ret]
  iintro ⟨#HR, #Hlev, HO, ⟨Hcr1, Hat1⟩, ⟨Hcr2, Hat2⟩, ⟨Hcr4, Hat4⟩, Hk⟩
  iapply (wp_rcvWait m c 1 (by decide) (by decide) _ (rcv_sem _ _ (o34_1 c) _ _) (by rfl)) $$ [HO Hcr1 Hat1]
  · isplitr; · iexact HR
    isplitr; · iexact Hlev
    isplitl [Hcr1]; · iexact Hcr1
    isplitl [HO] <;> iassumption
  iintro ⟨HO, Hz1, Hv1⟩
  iapply (wp_rcvWait m c 2 (by decide) (by decide) _ (rcv_sem _ _ (o34_2 c) _ _) (by rfl)) $$ [HO Hcr2 Hat2]
  · isplitr; · iexact HR
    isplitr; · iexact Hlev
    isplitl [Hcr2]; · iexact Hcr2
    isplitl [HO] <;> iassumption
  iintro ⟨HO, Hz2, Hv2⟩
  iapply (wp_rcvWait m c 4 (by decide) (by decide) _ (rcv_sem _ _ (o34_4 c) _ _) (by rfl)) $$ [HO Hcr4 Hat4]
  · isplitr; · iexact HR
    isplitr; · iexact Hlev
    isplitl [Hcr4]; · iexact Hcr4
    isplitl [HO] <;> iassumption
  iintro ⟨HO, Hz4, Hv4⟩
  rw [wp_ret]; imodintro
  iapply Hk
  isplitl [HO]; · iexact HO
  isplitl [Hz1 Hv1]; · isplitl [Hz1] <;> iassumption
  isplitl [Hz2 Hv2]; · isplitl [Hz2] <;> iassumption
  isplitl [Hz4] <;> iassumption

set_option maxHeartbeats 800000 in
theorem part14_ok (w₁ w₂ : BitVec 32) (Kt : BitVec 32 → sProp 𝕄) :
    iprop(recs m ∗ levAts L lv ∗ ow c 0 ∗ (vC c 3 ∗ aP c (rcvS (peer c 3))) ∗ (vC c 5 ∗ aP c (rcvS (peer c 5)))
        ∗ (∀ v, (ow c 0 ∗ (zS c (rcvS (peer c 3)) ∗ rvS c (slotSet (peer c 3)) (RC m c)) ∗ (zS c (rcvS (peer c 5)) ∗ rvS c (slotSet (peer c 5)) (RC m c))) -∗ Kt v))
      ⊢ wp frame (wpE (defs₀ (F := F)) 𝒱₀ (c : Thread nD τ) none) Set.univ
        (k0_part14 xM (Memref.isWhole_whole _) dyM (Memref.isWhole_whole _) oM (Memref.isWhole_whole _) pcM (Memref.isWhole_whole _) rvM (Memref.isWhole_whole _) rlM (Memref.isWhole_whole _)
          cc0_scratch3 cc0_scratch4 cc0_scratch5 cc0_scratch6 c w₁ w₂) Kt := by
  simp only [k0_part14_eq_skeleton]; unfold k0_part14_skel
  simp only [Prog.lift, Prog.bind_op, Prog.bind_ret, Prog.pure_eq_ret]
  iintro ⟨#HR, #Hlev, HO, ⟨Hcr3, Hat3⟩, ⟨Hcr5, Hat5⟩, Hk⟩
  iapply (wp_rcvWait m c 3 (by decide) (by decide) _ (rcv_sem _ _ (o34_3 c) _ _) (by rfl)) $$ [HO Hcr3 Hat3]
  · isplitr; · iexact HR
    isplitr; · iexact Hlev
    isplitl [Hcr3]; · iexact Hcr3
    isplitl [HO] <;> iassumption
  iintro ⟨HO, Hz3, Hv3⟩
  iapply (wp_rcvWait m c 5 (by decide) (by decide) _ (rcv_sem _ _ (o34_5 c) _ _) (by rfl)) $$ [HO Hcr5 Hat5]
  · isplitr; · iexact HR
    isplitr; · iexact Hlev
    isplitl [Hcr5]; · iexact Hcr5
    isplitl [HO] <;> iassumption
  iintro ⟨HO, Hz5, Hv5⟩
  rw [wp_ret]; imodintro
  iapply Hk
  isplitl [HO]; · iexact HO
  isplitl [Hz3 Hv3]; · isplitl [Hz3] <;> iassumption
  isplitl [Hz5] <;> iassumption

omit [FloatOps F] in
theorem write_oM (f w : (cc0_stg2_0 : Ref sig .tc).ty.Contents (Elt F)) :
    (oM.access (Rect.unit (s := S64x2048) ![0, 0] S64x2048.size inb_S64x2048_S64x2048_0_0)).write (Elt F) f w Finset.univ = w :=
  Memref.write_access_unit_zero_univ (Elt F) cc0_stg2_0 hz2 _ f w
omit [FloatOps F] in
theorem read_rvM (f : C8 F) :
    rvM.view.readAt (Elt F) (Rect.unit (s := S8x64x2048) ![0, 0, 0] S8x64x2048.size inb_S8x64x2048_S8x64x2048_0_0_0).toLoadRect f = f :=
  Memref.readAt_unit_zero (Elt F) cc0_scratch1 hz3 _ f

/-- The staged result block. -/
def sto (c : Dev nD) (f : (cc0_stg2_0 : Ref sig .tc).ty.Contents (Elt F)) : sProp 𝕄 := ((c : Thread nD τ).loc cc0_stg2_0) ↦{fullShare} f

set_option maxHeartbeats 1600000 in
theorem part15_ok (w₁ : BitVec 32) (f) (Kt : PUnit → sProp 𝕄) :
    iprop(recs m ∗ levAts L lv ∗ ow c 0 ∗ (vC c 6 ∗ aP c (rcvS (peer c 6))) ∗ (rC c 0 ∗ aP c (rsS 0))
        ∗ (rvS c (slotSet (peer c 0)) (RC m c) ∗ rvS c (slotSet (peer c 1)) (RC m c) ∗ rvS c (slotSet (peer c 2)) (RC m c)
          ∗ rvS c (slotSet (peer c 3)) (RC m c) ∗ rvS c (slotSet (peer c 4)) (RC m c) ∗ rvS c (slotSet (peer c 5)) (RC m c)
          ∗ rvS c (slotSet (far c)) (RC m c))
        ∗ sto c f
        ∗ ((ow c 0 ∗ zS c (rcvS (peer c 6)) ∗ (zS c (rsS 0) ∗ pcS c (colSet (far c) 0) (PC2 m c)) ∗ rvS c Finset.univ (RC m c) ∗ sto c (outAt m c)) -∗ Kt ⟨⟩))
      ⊢ wp frame (wpE (defs₀ (F := F)) 𝒱₀ (c : Thread nD τ) none) Set.univ
        (k0_part15 xM (Memref.isWhole_whole _) dyM (Memref.isWhole_whole _) oM (Memref.isWhole_whole _) pcM (Memref.isWhole_whole _) rvM (Memref.isWhole_whole _) rlM (Memref.isWhole_whole _)
          cc0_scratch3 cc0_scratch4 cc0_scratch5 cc0_scratch6 c w₁) Kt := by
  simp only [k0_part15_eq_skeleton]; unfold k0_part15_skel
  simp only [Prog.lift, Prog.bind_op, Prog.bind_ret, Prog.pure_eq_ret]
  unfold sto
  iintro ⟨#HR, #Hlev, HO, ⟨Hcr6, Hat6⟩, ⟨Hcr0, Hat0⟩, ⟨H0, H1, H2, H3, H4, H5, H7⟩, Ho, Hk⟩
  iapply (wp_rcvWait m c 6 (by decide) (by decide) _ (rcv_sem _ _ (o34_6 c) _ _) (by rfl)) $$ [HO Hcr6 Hat6]
  · isplitr; · iexact HR
    isplitr; · iexact Hlev
    isplitl [Hcr6]; · iexact Hcr6
    isplitl [HO] <;> iassumption
  iintro ⟨HO, Hz6, Hv6⟩
  ihave Hrv := (Entails.of_eq (rvS_slots c (RC m c)).symm) $$ [H0 H1 H2 H3 H4 H5 Hv6 H7]
  · isplitl [H0]; · iexact H0
    isplitl [H1]; · iexact H1
    isplitl [H2]; · iexact H2
    isplitl [H3]; · iexact H3
    isplitl [H4]; · iexact H4
    isplitl [H5]; · iexact H5
    isplitl [Hv6] <;> iassumption
  unfold rvS
  iapply (wp_load 𝒱₀ (c : Thread nD τ) none Set.univ (m := rvM) (Finset.subset_univ _)) $$ Hrv; iintro Hrv
  rw [read_rvM]
  iapply (wp_load 𝒱₀ (c : Thread nD τ) none Set.univ (m := oM) (Finset.subset_univ _)) $$ Ho; iintro Ho
  iapply (wp_store 𝒱₀ (c : Thread nD τ) none Set.univ (m := oM) (r := Rect.unit (s := S64x2048) ![0, 0] S64x2048.size inb_S64x2048_S64x2048_0_0) (Mk := Finset.univ) (Finset.subset_univ _)) $$ Ho; iintro Ho
  rw [write_oM]
  iapply (wp_rsWait m c 0 _ (rs_sem 0 _ rfl _ _) (by rfl)) $$ [HO Hcr0 Hat0]
  · isplitr; · iexact HR
    isplitr; · iexact Hlev
    isplitl [Hcr0]; · iexact Hcr0
    isplitl [HO] <;> iassumption
  iintro ⟨HO, Hz0, Hf0⟩
  rw [wp_ret]; imodintro
  iapply Hk
  isplitl [HO]; · iexact HO
  isplitl [Hz6]; · iexact Hz6
  isplitl [Hz0 Hf0]; · isplitl [Hz0] <;> iassumption
  isplitl [Hrv]; · iexact Hrv
  iexact Ho

/-! ### What this device sent has left -/

set_option maxHeartbeats 1600000 in
theorem part16_ok (Kt : PUnit → sProp 𝕄) :
    iprop(recs m ∗ levAts L lv ∗ ow c 0 ∗ (rC c 1 ∗ aP c (rsS 1)) ∗ (rC c 2 ∗ aP c (rsS 2)) ∗ (sC c 1 ∗ aP c (sndS (peer c 1)))
        ∗ (sC c 2 ∗ aP c (sndS (peer c 2))) ∗ (sC c 4 ∗ aP c (sndS (peer c 4)))
        ∗ ((ow c 0 ∗ (zS c (rsS 1) ∗ pcS c (colSet (far c) 1) (PC2 m c)) ∗ (zS c (rsS 2) ∗ pcS c (colSet (far c) 2) (PC2 m c))
          ∗ (zS c (sndS (peer c 1)) ∗ pcS c (slotSet (peer c 1)) (PC2 m c)) ∗ (zS c (sndS (peer c 2)) ∗ pcS c (slotSet (peer c 2)) (PC2 m c))
          ∗ (zS c (sndS (peer c 4)) ∗ pcS c (slotSet (peer c 4)) (PC2 m c))) -∗ Kt ⟨⟩))
      ⊢ wp frame (wpE (defs₀ (F := F)) 𝒱₀ (c : Thread nD τ) none) Set.univ
        (k0_part16 xM (Memref.isWhole_whole _) dyM (Memref.isWhole_whole _) oM (Memref.isWhole_whole _) pcM (Memref.isWhole_whole _) rvM (Memref.isWhole_whole _) rlM (Memref.isWhole_whole _)
          cc0_scratch3 cc0_scratch4 cc0_scratch5 cc0_scratch6 c) Kt := by
  simp only [k0_part16_eq_skeleton]; unfold k0_part16_skel
  simp only [Prog.lift, Prog.bind_op, Prog.bind_ret, Prog.pure_eq_ret]
  iintro ⟨#HR, #Hlev, HO, ⟨Hcf1, Haf1⟩, ⟨Hcf2, Haf2⟩, ⟨Hcr1, Hat1⟩, ⟨Hcr2, Hat2⟩, ⟨Hcr4, Hat4⟩, Hk⟩
  iapply (wp_rsWait m c 1 _ (rs_sem 1 _ rfl _ _) (by rfl)) $$ [HO Hcf1 Haf1]
  · isplitr; · iexact HR
    isplitr; · iexact Hlev
    isplitl [Hcf1]; · iexact Hcf1
    isplitl [HO] <;> iassumption
  iintro ⟨HO, Hzf1, Hf1⟩
  iapply (wp_rsWait m c 2 _ (rs_sem 2 _ rfl _ _) (by rfl)) $$ [HO Hcf2 Haf2]
  · isplitr; · iexact HR
    isplitr; · iexact Hlev
    isplitl [Hcf2]; · iexact Hcf2
    isplitl [HO] <;> iassumption
  iintro ⟨HO, Hzf2, Hf2⟩
  iapply (wp_sndWait m c 1 (by decide) (by decide) _ (snd_sem _ _ (o34_1 c) _ _) (by rfl)) $$ [HO Hcr1 Hat1]
  · isplitr; · iexact HR
    isplitr; · iexact Hlev
    isplitl [Hcr1]; · iexact Hcr1
    isplitl [HO] <;> iassumption
  iintro ⟨HO, Hz1, Hs1⟩
  iapply (wp_sndWait m c 2 (by decide) (by decide) _ (snd_sem _ _ (o34_2 c) _ _) (by rfl)) $$ [HO Hcr2 Hat2]
  · isplitr; · iexact HR
    isplitr; · iexact Hlev
    isplitl [Hcr2]; · iexact Hcr2
    isplitl [HO] <;> iassumption
  iintro ⟨HO, Hz2, Hs2⟩
  iapply (wp_sndWait m c 4 (by decide) (by decide) _ (snd_sem _ _ (o34_4 c) _ _) (by rfl)) $$ [HO Hcr4 Hat4]
  · isplitr; · iexact HR
    isplitr; · iexact Hlev
    isplitl [Hcr4]; · iexact Hcr4
    isplitl [HO] <;> iassumption
  iintro ⟨HO, Hz4, Hs4⟩
  rw [wp_ret]; imodintro
  iapply Hk
  isplitl [HO]; · iexact HO
  isplitl [Hzf1 Hf1]; · isplitl [Hzf1] <;> iassumption
  isplitl [Hzf2 Hf2]; · isplitl [Hzf2] <;> iassumption
  isplitl [Hz1 Hs1]; · isplitl [Hz1] <;> iassumption
  isplitl [Hz2 Hs2]; · isplitl [Hz2] <;> iassumption
  isplitl [Hz4] <;> iassumption

end Pieces

end Cert.KernelProof

end
-- ==== Proof.Body.lean ====
/-
# The exchange of device blocks: a device's whole body

What a device starts from, what it ends with, and its pieces one after the other between the two.
-/
module

public import proofs.«01_k».proof.Proof.Second

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device starts from and ends with -/

/-- Eight resources, one for each relation; three, one for each relay. -/
def oct (Φ : Fin 8 → sProp 𝕄) : sProp 𝕄 := iprop(Φ 0 ∗ Φ 1 ∗ Φ 2 ∗ Φ 3 ∗ Φ 4 ∗ Φ 5 ∗ Φ 6 ∗ Φ 7)
def tri (Φ : Fin 3 → sProp 𝕄) : sProp 𝕄 := iprop(Φ 0 ∗ Φ 1 ∗ Φ 2)

/-- The right to signal every other device, and to send to and relay to those it sends and relays to. -/
def tokens (c : Dev nD) : sProp 𝕄 :=
  iprop((bTok c 1 ∗ bTok c 2 ∗ bTok c 3 ∗ bTok c 4 ∗ bTok c 5 ∗ bTok c 6 ∗ bTok c 7)
    ∗ (dTok c 1 ∗ dTok c 2 ∗ dTok c 3 ∗ dTok c 4 ∗ dTok c 5 ∗ dTok c 6) ∗ (rTok c 0 ∗ rTok c 1 ∗ rTok c 2))
/-- The device's place at each of its cells: at the start. -/
def places (c : Dev nD) : sProp 𝕄 :=
  iprop(atPos ER (barCell c) 0 ∅ 0 ∗ oct (fun o => aP c (sndS (peer c o))) ∗ oct (fun o => aP c (rcvS (peer c o)))
    ∗ tri (fun d => aP c (rsS d)) ∗ tri (fun d => aP c (rrS d)))
/-- What it may count on coming to it. -/
def credits (c : Dev nD) : sProp 𝕄 :=
  iprop(cred (tallyAt (barCell c) () 7) ∗ (vC c 1 ∗ vC c 2 ∗ vC c 3 ∗ vC c 4 ∗ vC c 5 ∗ vC c 6) ∗ (lC c 0 ∗ lC c 1 ∗ lC c 2))
/-- At the end: the three buffers, and every cell back at zero. -/
def ended (c : Dev nD) : sProp 𝕄 :=
  iprop(((∃ f, pcS c Finset.univ f) ∗ (∃ f, rvS c Finset.univ f) ∗ (∃ f, rlS c Finset.univ f))
    ∗ semVal (barCell c) 0 ∗ oct (fun o => zS c (sndS (peer c o))) ∗ oct (fun o => zS c (rcvS (peer c o)))
    ∗ tri (fun d => zS c (rsS d)) ∗ tri (fun d => zS c (rrS d)))

section Pieces
variable (c : Dev nD)

/-- What the barrier's signals bring, with the rights to send, are what the sends need. -/
theorem keys : iprop((barPay c 1 ∗ barPay c 2 ∗ barPay c 3 ∗ barPay c 4 ∗ barPay c 5 ∗ barPay c 6 ∗ barPay c 7)
      ∗ (dTok c 1 ∗ dTok c 2 ∗ dTok c 3 ∗ dTok c 4 ∗ dTok c 5 ∗ dTok c 6) ∗ (rTok c 0 ∗ rTok c 1 ∗ rTok c 2))
    ⊢ (iprop(DK c 1 ∗ DK c 2 ∗ DK c 3 ∗ DK c 4 ∗ DK c 5 ∗ DK c 6 ∗ RK c 0 ∗ RK c 1 ∗ RK c 2) : sProp 𝕄) := by
  unfold barPay DK RK
  rw [show rel 0 = 1 from rfl, show rel 1 = 2 from rfl, show rel 2 = 4 from rfl]
  iintro ⟨⟨⟨V1, L1⟩, ⟨V2, L2⟩, V3, ⟨V4, L4⟩, V5, V6, -⟩, ⟨T1, T2, T3, T4, T5, T6⟩, R0, R1, R2⟩
  isplitl [V1 T1]; · isplitl [V1] <;> iassumption
  isplitl [V2 T2]; · isplitl [V2] <;> iassumption
  isplitl [V3 T3]; · isplitl [V3] <;> iassumption
  isplitl [V4 T4]; · isplitl [V4] <;> iassumption
  isplitl [V5 T5]; · isplitl [V5] <;> iassumption
  isplitl [V6 T6]; · isplitl [V6] <;> iassumption
  isplitl [L1 R0]; · isplitl [L1] <;> iassumption
  isplitl [L2 R1]; · isplitl [L2] <;> iassumption
  isplitl [L4] <;> iassumption

theorem Os_low : Os c = Ov c + vT c 4 + rT c 2 + rT c 1 + rT c 0 + vT c 2 + vT c 1 := by unfold Os; ac_rfl
theorem Os_high : Os c = Ov c + vT c 2 + vT c 1 + vT c 4 + rT c 2 + rT c 1 + rT c 0 := by unfold Os; ac_rfl

set_option maxHeartbeats 4000000 in
set_option maxRecDepth 8000 in
theorem body_run (f₀ f₁ : C8 F) (f₂ : C3 F) (fo) (Kt : PUnit → sProp 𝕄) :
    iprop(recs m ∗ levAts L lv ∗ ow c (O₀ c) ∗ tokens c ∗ places c ∗ credits c ∗ pcS c Finset.univ f₀ ∗ rvS c Finset.univ f₁ ∗ rlS c Finset.univ f₂
        ∗ stx m c ∗ sty m c ∗ sto c fo
        ∗ ((ow c 0 ∗ ended c ∗ stx m c ∗ sty m c ∗ sto c (outAt m c)) -∗ Kt ⟨⟩))
      ⊢ wp frame (wpE (defs₀ (F := F)) 𝒱₀ (c : Thread nD τ) none) Set.univ
        (cc0_body xM (Memref.isWhole_whole _) dyM (Memref.isWhole_whole _) oM (Memref.isWhole_whole _) pcM (Memref.isWhole_whole _) rvM (Memref.isWhole_whole _) rlM (Memref.isWhole_whole _)
          cc0_scratch3 cc0_scratch4 cc0_scratch5 cc0_scratch6) Kt := by
  simp only [cc0_body_eq_skeleton]; unfold cc0_body_skel
  simp only [Prog.lift, Prog.pure_eq_ret, wp_bind]
  unfold tokens places credits
  simp only [oct, tri]
  iintro ⟨#HR, #Hlev, HO, ⟨⟨B1, B2, B3, B4, B5, B6, B7⟩, Hd, Hr⟩, ⟨Abar, ⟨AS0, AS1, AS2, AS3, AS4, AS5, AS6, AS7⟩, ⟨AV0, AV1, AV2, AV3, AV4, AV5, AV6, AV7⟩,
    ⟨AF0, AF1, AF2⟩, AL0, AL1, AL2⟩, ⟨Cbar, ⟨CV1, CV2, CV3, CV4, CV5, CV6⟩, CL0, CL1, CL2⟩, Hpc, Hrv, Hrl, Hx, Hy, Ho, Hk⟩
  ihave ⟨V0, V7, Lr, P1, P2, P3, P4, P5, P6, P7⟩ := (split_start c f₁ f₂) $$ [Hrv Hrl]
  · isplitl [Hrv] <;> iassumption
  iapply (part1_ok m c _)
  isplitr; · iexact HR
  isplitl [HO]; · iexact HO
  isplitl [B1 P1]
  · isplitl [B1]; · iexact B1
    iexact P1
  isplitl [B2 P2]
  · isplitl [B2]; · iexact B2
    iexact P2
  iintro %v2 %v9 %v31 HO
  iapply (part2_ok m c _ _ _)
  isplitr; · iexact HR
  isplitl [HO]; · iexact HO
  isplitl [B3 P3]
  · isplitl [B3]; · iexact B3
    iexact P3
  isplitl [B4 P4]
  · isplitl [B4]; · iexact B4
    iexact P4
  isplitl [B5 P5]
  · isplitl [B5]; · iexact B5
    iexact P5
  iintro %v HO
  iapply (part3_ok m c _ _ _ f₀ _)
  isplitr; · iexact HR
  isplitr; · iexact Hlev
  isplitl [HO]; · iexact HO
  isplitl [B6 P6]
  · isplitl [B6]; · iexact B6
    iexact P6
  isplitl [B7 P7]
  · isplitl [B7]; · iexact B7
    iexact P7
  isplitl [Hx]; · iexact Hx
  isplitl [Hy]; · iexact Hy
  isplitl [Hpc]; · iexact Hpc
  isplitl [Cbar]; · iexact Cbar
  isplitl [Abar]; · iexact Abar
  iintro %v' ⟨HO, Hx, Hy, Hlo, ⟨%fh, Hhi⟩, Zbar, P1, P2, P3, P4, P5, P6, P7⟩
  ihave ⟨D1, D2, D3, D4, D5, D6, R0, R1, R2⟩ := (keys c) $$ [P1 P2 P3 P4 P5 P6 P7 Hd Hr]
  · isplitl [P1 P2 P3 P4 P5 P6 P7]
    · isplitl [P1]; · iexact P1
      isplitl [P2]; · iexact P2
      isplitl [P3]; · iexact P3
      isplitl [P4]; · iexact P4
      isplitl [P5]; · iexact P5
      isplitl [P6]; · iexact P6
      iexact P7
    isplitl [Hd]; · iexact Hd
    iexact Hr
  rcases em (c.val < 4) with h | h
  case' inl =>
    rw [Os_low c]
    ihave ⟨S0, S1, S2, S3⟩ := (near_slots m c loSet (lo_near c h)) $$ Hlo
    iapply (part4_low c h _ _ _ _)
    iapply (part5_low m c h _ _ _)
    isplitr; · iexact HR
    isplitl [HO]; · iexact HO
    isplitl [S1 D1]
    · isplitl [S1]; · iexact S1
      iexact D1
    isplitl [S2 D2]
    · isplitl [S2]; · iexact S2
      iexact D2
    iintro %v'' ⟨HO, CS1, CS2⟩
    iapply (part6_low m c h _ _ _ _ _ fh _)
    isplitr; · iexact HR
    isplitl [HO]; · iexact HO
    isplitl [Hhi]; · iexact Hhi
    isplitl [R0]; · iexact R0
    iintro %v3 ⟨HO, CF0, S4, S5, S6, F1, F2⟩
    iapply (part7_low m c h _ _ _ _ _ _)
    isplitr; · iexact HR
    isplitl [HO]; · iexact HO
    isplitl [F1 R1]
    · isplitl [F1]; · iexact F1
      iexact R1
    isplitl [F2 R2]
    · isplitl [F2]; · iexact F2
      iexact R2
    iintro %v4 ⟨HO, CF1, CF2⟩
    iapply (part8_ok m c 4 (.inl ⟨h, rfl⟩) _ _ _ _ f₁ f₁ _)
    isplitr; · iexact HR
    isplitl [HO]; · iexact HO
    isplitl [S4 D4]
    · isplitl [S4]; · iexact S4
      iexact D4
    isplitl [S0]; · iexact S0
    isplitl [V7]; · iexact V7
    isplitl [V0]; · iexact V0
    iintro %v5 ⟨HO, CS4, S0, V7, V0⟩
  case' inr =>
    rw [Os_high c]
    ihave ⟨S4, S5, S6, F0, F1, F2⟩ := (away_slots m c loSet (lo_away c h)) $$ Hlo
    iapply (part4_high m c h _ _ _ _ _)
    isplitr; · iexact HR
    isplitl [HO]; · iexact HO
    isplitl [F0 R0]
    · isplitl [F0]; · iexact F0
      iexact R0
    isplitl [F1 R1]
    · isplitl [F1]; · iexact F1
      iexact R1
    isplitl [F2 R2]
    · isplitl [F2]; · iexact F2
      iexact R2
    iintro ⟨HO, CF0, CF1, CF2⟩
    iapply (part5_high c h _ _)
    iintro %v''
    iapply (part6_high m c h _ _ _ _ _ fh _)
    isplitr; · iexact HR
    isplitl [HO]; · iexact HO
    isplitl [S4 D4]
    · isplitl [S4]; · iexact S4
      iexact D4
    isplitl [Hhi]; · iexact Hhi
    iintro %v3 ⟨HO, CS4, S0, S1, S2, S3⟩
    iapply (part7_high m c h _ _ _ _ _ _)
    isplitr; · iexact HR
    isplitl [HO]; · iexact HO
    isplitl [S1 D1]
    · isplitl [S1]; · iexact S1
      iexact D1
    iintro %v4 ⟨HO, CS1⟩
    iapply (part8_ok m c 2 (.inr ⟨h, rfl⟩) _ _ _ _ f₁ f₁ _)
    isplitr; · iexact HR
    isplitl [HO]; · iexact HO
    isplitl [S2 D2]
    · isplitl [S2]; · iexact S2
      iexact D2
    isplitl [S0]; · iexact S0
    isplitl [V7]; · iexact V7
    isplitl [V0]; · iexact V0
    iintro %v5 ⟨HO, CS2, S0, V7, V0⟩
  all_goals
    iapply (part9_ok m c _ _ _ _ _)
    isplitr; · iexact HR
    isplitr; · iexact Hlev
    isplitl [HO]; · iexact HO
    isplitl [CL0]; · iexact CL0
    isplitl [AL0]; · iexact AL0
    isplitl [S6]; · iexact S6
    iintro ⟨HO, ZL0, L0, S6⟩
    iapply (part10_ok m c _ _)
    isplitr; · iexact HR
    isplitr; · iexact Hlev
    isplitl [HO]; · iexact HO
    isplitl [S6 D6]
    · isplitl [S6]; · iexact S6
      iexact D6
    isplitl [CL1]; · iexact CL1
    isplitl [AL1]; · iexact AL1
    isplitl [S5]; · iexact S5
    iintro %v6 ⟨HO, CS6, ZL1, L1, S5⟩
    iapply (part11_ok m c _ _ _)
    isplitr; · iexact HR
    isplitr; · iexact Hlev
    isplitl [HO]; · iexact HO
    isplitl [S5 D5]
    · isplitl [S5]; · iexact S5
      iexact D5
    isplitl [CL2]; · iexact CL2
    isplitl [AL2]; · iexact AL2
    iintro %v7 ⟨HO, CS5, ZL2, L2⟩
    iapply (part12_ok m c _ _ _)
    isplitr; · iexact HR
    isplitl [HO]; · iexact HO
    isplitl [S3 D3]
    · isplitl [S3]; · iexact S3
      iexact D3
    isplitl [L2]; · iexact L2
    iintro ⟨HO, CS3, L2⟩
    iapply (part13_ok m c _ _)
    isplitr; · iexact HR
    isplitr; · iexact Hlev
    isplitl [HO]; · iexact HO
    isplitl [CV1 AV1]
    · isplitl [CV1]; · iexact CV1
      iexact AV1
    isplitl [CV2 AV2]
    · isplitl [CV2]; · iexact CV2
      iexact AV2
    isplitl [CV4 AV4]
    · isplitl [CV4]; · iexact CV4
      iexact AV4
    iintro %v8 ⟨HO, ⟨ZV1, V1⟩, ⟨ZV2, V2⟩, ZV4, V4⟩
    iapply (part14_ok m c _ _ _)
    isplitr; · iexact HR
    isplitr; · iexact Hlev
    isplitl [HO]; · iexact HO
    isplitl [CV3 AV3]
    · isplitl [CV3]; · iexact CV3
      iexact AV3
    isplitl [CV5 AV5]
    · isplitl [CV5]; · iexact CV5
      iexact AV5
    iintro %v9 ⟨HO, ⟨ZV3, V3⟩, ZV5, V5⟩
    iapply (part15_ok m c _ fo _)
    isplitr; · iexact HR
    isplitr; · iexact Hlev
    isplitl [HO]; · iexact HO
    isplitl [CV6 AV6]
    · isplitl [CV6]; · iexact CV6
      iexact AV6
    isplitl [CF0 AF0]
    · isplitl [CF0]; · iexact CF0
      iexact AF0
    isplitl [V0 V1 V2 V3 V4 V5 V7]
    · isplitl [V0]; · iexact V0
      isplitl [V1]; · iexact V1
      isplitl [V2]; · iexact V2
      isplitl [V3]; · iexact V3
      isplitl [V4]; · iexact V4
      isplitl [V5]; · iexact V5
      iexact V7
    isplitl [Ho]; · iexact Ho
    iintro ⟨HO, ZV6, ⟨ZF0, F0⟩, Hrv, Ho⟩
    iapply (part16_ok m c _)
    isplitr; · iexact HR
    isplitr; · iexact Hlev
    isplitl [HO]; · iexact HO
    isplitl [CF1 AF1]
    · isplitl [CF1]; · iexact CF1
      iexact AF1
    isplitl [CF2 AF2]
    · isplitl [CF2]; · iexact CF2
      iexact AF2
    isplitl [CS1 AS1]
    · isplitl [CS1]; · iexact CS1
      iexact AS1
    isplitl [CS2 AS2]
    · isplitl [CS2]; · iexact CS2
      iexact AS2
    isplitl [CS4 AS4]
    · isplitl [CS4]; · iexact CS4
      iexact AS4
    iintro ⟨HO, ⟨ZF1, F1⟩, ⟨ZF2, F2⟩, ⟨ZS1, S1⟩, ⟨ZS2, S2⟩, ZS4, S4⟩
    iapply (wp_sndWait m c 6 (by decide) (by decide) _ (snd_sem _ _ (o34_6 c) _ _) (by rfl)) $$ [HO CS6 AS6]
    · isplitr; · iexact HR
      isplitr; · iexact Hlev
      isplitl [CS6]; · iexact CS6
      isplitl [HO] <;> iassumption
    iintro ⟨HO, ZS6, S6⟩
    rw [wp_ret]; imodintro
    iapply (wp_sndWait m c 5 (by decide) (by decide) _ (snd_sem _ _ (o34_5 c) _ _) (by rfl)) $$ [HO CS5 AS5]
    · isplitr; · iexact HR
      isplitr; · iexact Hlev
      isplitl [CS5]; · iexact CS5
      isplitl [HO] <;> iassumption
    iintro ⟨HO, ZS5, S5⟩
    rw [wp_ret]; imodintro
    iapply (wp_sndWait m c 3 (by decide) (by decide) _ (snd_sem _ _ (o34_3 c) _ _) (by rfl)) $$ [HO CS3 AS3]
    · isplitr; · iexact HR
      isplitr; · iexact Hlev
      isplitl [CS3]; · iexact CS3
      isplitl [HO] <;> iassumption
    iintro ⟨HO, ZS3, S3⟩
    rw [wp_ret]; imodintro
    rw [wp_ret]
    unfold aP
    imod (close_unused m c (sndS (peer c 0)) (by show 3 ≤ 3 + _; omega) (unused_own c).1) $$ [AS0] with ZS0
    · isplitr; · iexact HR
      iexact AS0
    imod (close_unused m c (rcvS (peer c 0)) (by show 3 ≤ 11 + _; omega) (unused_own c).2) $$ [AV0] with ZV0
    · isplitr; · iexact HR
      iexact AV0
    imod (close_unused m c (sndS (far c)) (by show 3 ≤ 3 + _; omega) (unused_far c).1) $$ [AS7] with ZS7
    · isplitr; · iexact HR
      iexact AS7
    imod (close_unused m c (rcvS (far c)) (by show 3 ≤ 11 + _; omega) (unused_far c).2) $$ [AV7] with ZV7
    · isplitr; · iexact HR
      iexact AV7
    imodintro
    iapply Hk
    unfold ended zS
    simp only [oct, tri]
    ihave Hpc := (pc_whole m c) $$ [S0 S1 S2 S3 S4 S5 S6 F0 F1 F2]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [F0]; · iexact F0
      isplitl [F1]; · iexact F1
      iexact F2
    ihave Hrl := (rlS_join c (fun d => RL m d c) f₂) $$ [L0 L1 L2 Lr]
    · isplitl [L0 L1 L2]
      · isplitl [L0]; · iexact L0
        isplitl [L1]; · iexact L1
        iexact L2
      iexact Lr
    isplitl [HO]; · iexact HO
    isplitl [Hpc Hrv Hrl Zbar ZS0 ZS1 ZS2 ZS3 ZS4 ZS5 ZS6 ZS7 ZV0 ZV1 ZV2 ZV3 ZV4 ZV5 ZV6 ZV7 ZF0 ZF1 ZF2 ZL0 ZL1 ZL2]
    · isplitl [Hpc Hrv Hrl]
      · isplitl [Hpc]; · iexists _; iexact Hpc
        isplitl [Hrv]; · iexists _; iexact Hrv
        iexact Hrl
      isplitl [Zbar]; · iexact Zbar
      isplitl [ZS0 ZS1 ZS2 ZS3 ZS4 ZS5 ZS6 ZS7]
      · isplitl [ZS0]; · iexact ZS0
        isplitl [ZS1]; · iexact ZS1
        isplitl [ZS2]; · iexact ZS2
        isplitl [ZS3]; · iexact ZS3
        isplitl [ZS4]; · iexact ZS4
        isplitl [ZS5]; · iexact ZS5
        isplitl [ZS6]; · iexact ZS6
        iexact ZS7
      isplitl [ZV0 ZV1 ZV2 ZV3 ZV4 ZV5 ZV6 ZV7]
      · isplitl [ZV0]; · iexact ZV0
        isplitl [ZV1]; · iexact ZV1
        isplitl [ZV2]; · iexact ZV2
        isplitl [ZV3]; · iexact ZV3
        isplitl [ZV4]; · iexact ZV4
        isplitl [ZV5]; · iexact ZV5
        isplitl [ZV6]; · iexact ZV6
        iexact ZV7
      isplitl [ZF0 ZF1 ZF2]
      · isplitl [ZF0]; · iexact ZF0
        isplitl [ZF1]; · iexact ZF1
        iexact ZF2
      isplitl [ZL0]; · iexact ZL0
      isplitl [ZL1]; · iexact ZL1
      iexact ZL2
    isplitl [Hx]; · iexact Hx
    isplitl [Hy]; · iexact Hy
    iexact Ho

end Pieces

end Cert.KernelProof

end
-- ==== Proof.Obligation.lean ====
/-
# The exchange of device blocks: the kernel's one grid point

What the pipeline that stages a device's blocks knows of each window, and the kernel's whole body as the step
it asks for: from what the launch deals a device to what it hands back.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The memory a run starts from: every semaphore at zero. -/
def s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device's body starts from, besides its three scratch buffers; those; and what it ends with. -/
def start (c : Dev nD) : sProp 𝕄 := iprop(recs m ∗ levAts L lv ∗ tokens c ∗ places c ∗ credits c)
def scratch (c : Dev nD) : sProp 𝕄 :=
  iprop((∃ f, pcS c Finset.univ f) ∗ (∃ f, rvS c Finset.univ f) ∗ (∃ f, rlS c Finset.univ f))

/-- The three windows: the device's blocks of `x` and of `dy`, and the block of the result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => dys m c
    | ⟨2, _⟩ => outAt m c
  Φ t := match t with
    | ⟨0, _⟩ => iprop(start m c ∗ scratch c)
    | ⟨_ + 1, _⟩ => ended c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def pointPre (c : Dev nD) : sProp 𝕄 :=
  iprop((start m c ∗ scratch c) ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def pointPost (c : Dev nD) : sProp 𝕄 :=
  iprop(ended c ∗ (dats m ρ 0 c).owesAt () t₀.succ ∗ stg c cc0_stg0_0 (xs m c) ∗ stg c cc0_stg1_0 (dys m c) ∗ stg c cc0_stg2_0 (outAt m c))

/-- The windows of `x` and of `dy` are fetched at the one point, so their staging buffers hold the blocks. -/
theorem before_x (c : Dev nD) (d) : (dats m ρ 0 c).before (0 : Fin 3) t₀ d = xs m c := by
  unfold Dat.before; rw [if_pos (fetch0_0 t₀)]; rfl
theorem before_dy (c : Dev nD) (d) : (dats m ρ 0 c).before (1 : Fin 3) t₀ d = dys m c := by
  unfold Dat.before; rw [if_pos (fetch0_1 t₀)]; rfl

theorem point_run (c : Dev nD) :
    pointPre m ρ c ⊢ wp frame (wpE (defs₀ (F := F)) 𝒱₀ (c : Thread nD τ) none) Set.univ
      (cc0_body xM (Memref.isWhole_whole _) dyM (Memref.isWhole_whole _) oM (Memref.isWhole_whole _) pcM (Memref.isWhole_whole _) rvM (Memref.isWhole_whole _) rlM (Memref.isWhole_whole _)
        cc0_scratch3 cc0_scratch4 cc0_scratch5 cc0_scratch6) (fun _ => pointPost m ρ c) := by
  unfold pointPre start scratch
  iintro ⟨⟨⟨HR, Hlev, Ht, Hp, Hc⟩, ⟨%f₀, H0⟩, ⟨%f₁, H1⟩, ⟨%f₂, H2⟩⟩, Ho, ⟨%d0, %g0, %hg0, Hx⟩, ⟨%d1, %g1, %hg1, Hy⟩, ⟨%d2, %g2, %hg2, Hout⟩⟩
  have hx : g0 = xs m c := hg0.trans (before_x m ρ c d0)
  have hy : g1 = dys m c := hg1.trans (before_dy m ρ c d1)
  subst hx; subst hy
  unfold Dat.owesAt Pipeline.owesWithin
  icases Ho with ⟨%W, %hW, HO⟩
  rw [show (dats m ρ 0 c).owed t₀.castSucc = O₀ c from rfl]
  iapply (body_run m c f₀ f₁ f₂ g2 (fun _ => pointPost m ρ c))
  isplitl [HR]; · iexact HR
  isplitl [Hlev]; · iexact Hlev
  isplitl [HO]
  · unfold ow; iexists W; iexact HO
  isplitl [Ht]; · iexact Ht
  isplitl [Hp]; · iexact Hp
  isplitl [Hc]; · iexact Hc
  isplitl [H0]; · iexact H0
  isplitl [H1]; · iexact H1
  isplitl [H2]; · iexact H2
  unfold stx sty sto
  isplitl [Hx]; · iexact Hx
  isplitl [Hy]; · iexact Hy
  isplitl [Hout]; · iexact Hout
  iintro ⟨HO, He, Hx, Hy, Hout⟩
  unfold pointPost Dat.owesAt Pipeline.owesWithin ow
  rw [show (dats m ρ 0 c).owed t₀.succ = 0 from rfl]
  icases HO with ⟨%W', HO⟩
  isplitl [He]; · iexact He
  isplitl [HO]
  · iexists W'
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; · (ipureintro; rfl)
  iexact Hout

set_option maxRecDepth 4000 in
/-- The step the pipeline asks for, at its only point. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact point_run m ρ c

end Cert.KernelProof

end
-- ==== Proof.Deal.lean ====
/-
# The exchange of device blocks: what the launch deals each device

The launch mints, for each cell, its state, its owner's place at it and its duties' tokens, and the owners hold them
all. Here every cell's record is opened and shared, and each token goes to the device that pays the duty.
-/
module

public import proofs.«01_k».proof.Proof.Obligation

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Families over cells, regrouped -/

omit [FloatOps F] in
theorem oct_eq (Φ : Fin 8 → sProp 𝕄) : bigSep Finset.univ Φ = oct Φ :=
  bigSep_univ_eq_bigSepL [0, 1, 2, 3, 4, 5, 6, 7] (by decide) (by decide) Φ
omit [FloatOps F] in
theorem tri_eq (Φ : Fin 3 → sProp 𝕄) : bigSep Finset.univ Φ = tri Φ := bigSep_univ_eq_bigSepL [0, 1, 2] (by decide) (by decide) Φ

omit [FloatOps F] in
/-- One for each device is one for each relation to `c`. -/
theorem dev_eq (c : Dev nD) (Φ : Dev nD → sProp 𝕄) : bigSep Finset.univ Φ = oct fun o => Φ (peer c o) := by
  rw [bigSep_univ_equiv (peers c) Φ, oct_eq]; rfl

/-- The kernel's own semaphores in their four groups. -/
def group : Fin 8 ⊕ Fin 8 ⊕ Fin 3 ⊕ Fin 3 → Fin 22
  | .inl p => ⟨p.val, by omega⟩
  | .inr (.inl p) => ⟨8 + p.val, by omega⟩
  | .inr (.inr (.inl d)) => ⟨16 + d.val, by omega⟩
  | .inr (.inr (.inr d)) => ⟨19 + d.val, by omega⟩
theorem group_bij : Function.Bijective group := by decide +kernel

omit [FloatOps F] in
/-- One for each of device `c`'s own cells: those of its sends, of its receives, and of the relays' two ends. -/
theorem own_eq (c : Dev nD) (Φ : GSem nD τ sig → sProp 𝕄) :
    (bigSep Finset.univ fun k : Fin 22 => Φ (kcell (c, some k)))
      = iprop(oct (fun o => Φ (dmaCell c (sndS (peer c o)))) ∗ oct (fun o => Φ (dmaCell c (rcvS (peer c o))))
        ∗ tri (fun d => Φ (dmaCell c (rsS d))) ∗ tri (fun d => Φ (dmaCell c (rrS d)))) := by
  have h (s s' : DmaSem sig) (e : (s : Fin 25).val = (s' : Fin 25).val) : Φ (dmaCell c s) = Φ (dmaCell c s') := by
    rw [show s = s' from Fin.ext e]
  rw [bigSep_univ_equiv (Equiv.ofBijective group group_bij), bigSep_univ_sum, bigSep_univ_sum, bigSep_univ_sum,
    ← dev_eq c (fun p => Φ (dmaCell c (sndS p))), ← dev_eq c (fun p => Φ (dmaCell c (rcvS p))), ← tri_eq, ← tri_eq]
  exact congrArg₂ BI.sep (bigSep_congr fun p _ => h _ _ (Nat.add_comm _ _))
    (congrArg₂ BI.sep (bigSep_congr fun p _ => h _ _ (show 8 + (p : Fin 8).val + 3 = 11 + (p : Fin 8).val by omega))
      (congrArg₂ BI.sep (bigSep_congr fun d _ => h _ _ (show 16 + d.val + 3 = 19 + d.val by omega))
        (bigSep_congr fun d _ => h _ _ (show 19 + d.val + 3 = 22 + d.val by omega))))

omit [FloatOps F] in
/-- The barrier's cell and the own ones. -/
theorem opt_eq {I : Type} [Fintype I] [DecidableEq I] (Φ : Option I → sProp 𝕄) :
    bigSep Finset.univ Φ = iprop(Φ none ∗ bigSep Finset.univ fun k => Φ (some k)) := by
  rw [bigSep_univ_equiv (Equiv.optionEquivSumPUnit.{0} I).symm Φ, bigSep_univ_sum, bigSep_univ_of_subsingleton PUnit.unit.{1}]
  exact _root_.Std.Commutative.comm (op := fun P Q : sProp 𝕄 => BI.sep P Q) _ _

omit [FloatOps F] in
theorem cells_eq (c : Dev nD) (Φ : GSem nD τ sig → sProp 𝕄) :
    (bigSep Finset.univ fun k : Option (Fin 22) => Φ (kcell (c, k)))
      = iprop(Φ (barCell c) ∗ oct (fun o => Φ (dmaCell c (sndS (peer c o)))) ∗ oct (fun o => Φ (dmaCell c (rcvS (peer c o))))
        ∗ tri (fun d => Φ (dmaCell c (rsS d))) ∗ tri (fun d => Φ (dmaCell c (rrS d)))) := by
  rw [opt_eq, own_eq]

/-- A pair of a device and a relation is also that relation with the device at its other end. -/
def across {I : Type} (r : I → Fin 8) : Dev nD × I ≃ Dev nD × I :=
  ⟨fun x => (peer x.1 (r x.2), x.2), fun x => (peer x.1 (r x.2), x.2), fun x => Prod.ext (peer_peer _ _) rfl, fun x => Prod.ext (peer_peer _ _) rfl⟩

omit [FloatOps F] in
theorem across_eq {I : Type} [Fintype I] (r : I → Fin 8) (X : Dev nD → I → sProp 𝕄) :
    (bigSep Finset.univ fun c => bigSep Finset.univ fun i => X c i) = bigSep Finset.univ fun c => bigSep Finset.univ fun i => X (peer c (r i)) i := by
  rw [← bigSep_univ_prod (fun x : Dev nD × I => X x.1 x.2), bigSep_univ_equiv (across r), bigSep_univ_prod]; rfl

/-! ## The tokens -/

theorem kcell_injective : Function.Injective (kcell : Dev nD × Option (Fin 22) → GSem nD τ sig) := by
  rintro ⟨c, k⟩ ⟨c', k'⟩ h
  have h1 : c = c' := congrArg (fun g : GSem nD τ sig => g.1.1) h
  have h2 : csem k = csem k' := congrArg Prod.snd h
  subst h1
  rcases k with _ | k <;> rcases k' with _ | k'
  · rfl
  · cases h2
  · cases h2
  · have h3 : (⟨k.val + 3, by omega⟩ : Fin 25) = ⟨k'.val + 3, by omega⟩ := SemLoc.dma.inj h2
    have h4 : k.val + 3 = k'.val + 3 := congrArg Fin.val h3
    rw [show k = k' from Fin.ext (by omega)]

def allCells : Finset (GSem nD τ sig) := Finset.univ.map ⟨kcell, kcell_injective⟩
/-- A token for each duty a cell could have. -/
def tokOf (x : (Dev nD × Option (Fin 22)) × Fin 8) : GSem nD τ sig × ℕ × Fin 8 := (kcell x.1, 0, x.2)
theorem tokOf_injective : Function.Injective tokOf := fun x y h =>
  Prod.ext (kcell_injective (congrArg (fun t => t.1) h)) (congrArg (fun t => t.2.2) h)
def allToks : Finset (GSem nD τ sig × ℕ × Fin 8) := Finset.univ.map ⟨tokOf, tokOf_injective⟩

def u₀ : UU :=
  (initOf (Pipeline.cells cfgs cellOf_inj) (Pipeline.launchToks cfgs cellOf_inj), initOf allCells allToks)

/-- The tokens of device `c`'s own cells: its barrier's eight, and the one of each other cell. -/
def toks (c : Dev nD) : sProp 𝕄 :=
  iprop((bigSep Finset.univ fun o : Fin 8 => dutyTok ER (barCell c) 0 o)
    ∗ (bigSep Finset.univ fun o : Fin 8 => dutyTok ER (dmaCell c (sndS (peer c o))) 0 (0 : Fin 8))
    ∗ (bigSep Finset.univ fun o : Fin 8 => dutyTok ER (dmaCell c (rcvS (peer c o))) 0 (0 : Fin 8))
    ∗ (bigSep Finset.univ fun d : Fin 3 => dutyTok ER (dmaCell c (rsS d)) 0 (0 : Fin 8))
    ∗ (bigSep Finset.univ fun d : Fin 3 => dutyTok ER (dmaCell c (rrS d)) 0 (0 : Fin 8)))

omit [FloatOps F] in
theorem toks_intro (c : Dev nD) :
    (bigSep Finset.univ fun k : Option (Fin 22) => bigSep Finset.univ fun d : Fin 8 => (dutyTok ER (kcell (c, k)) 0 d : sProp 𝕄)) ⊢ toks c := by
  rw [opt_eq]
  unfold toks
  refine sep_mono_right ?_
  refine (bigSep_mono (Ψ := fun k : Fin 22 => dutyTok ER (kcell (c, some k)) 0 (0 : Fin 8)) fun k _ => bigSep_elim (Finset.mem_univ 0)).trans ?_
  rw [own_eq c (fun g => dutyTok ER g 0 (0 : Fin 8)), oct_eq, oct_eq, tri_eq, tri_eq]
  exact BI.Entails.refl _

omit [FloatOps F] in
theorem toks_match (c : Dev nD) :
    (iprop(oct (fun o => dutyTok ER (barCell (peer c o)) 0 o) ∗ oct (fun o => dutyTok ER (dmaCell c (sndS (peer c o))) 0 (0 : Fin 8))
        ∗ oct (fun o => dutyTok ER (dmaCell (peer c o) (rcvS c)) 0 (0 : Fin 8)) ∗ tri (fun d => dutyTok ER (dmaCell c (rsS d)) 0 (0 : Fin 8))
        ∗ tri (fun d => dutyTok ER (dmaCell (peer c (rel d)) (rrS d)) 0 (0 : Fin 8))) : sProp 𝕄) ⊢ tokens c := by
  unfold oct tri tokens bTok dTok rTok
  iintro ⟨⟨-, B1, B2, B3, B4, B5, B6, B7⟩, ⟨-, S1, S2, S3, S4, S5, S6, -⟩, ⟨-, V1, V2, V3, V4, V5, V6, -⟩, ⟨F0, F1, F2⟩, L0, L1, L2⟩
  isplitl [B1 B2 B3 B4 B5 B6 B7]
  · isplitl [B1]; · iexact B1
    isplitl [B2]; · iexact B2
    isplitl [B3]; · iexact B3
    isplitl [B4]; · iexact B4
    isplitl [B5]; · iexact B5
    isplitl [B6] <;> iassumption
  isplitl [S1 S2 S3 S4 S5 S6 V1 V2 V3 V4 V5 V6]
  · isplitl [S1 V1]; · isplitl [S1] <;> iassumption
    isplitl [S2 V2]; · isplitl [S2] <;> iassumption
    isplitl [S3 V3]; · isplitl [S3] <;> iassumption
    isplitl [S4 V4]; · isplitl [S4] <;> iassumption
    isplitl [S5 V5]; · isplitl [S5] <;> iassumption
    isplitl [S6] <;> iassumption
  isplitl [F0 L0]; · isplitl [F0] <;> iassumption
  isplitl [F1 L1]; · isplitl [F1] <;> iassumption
  isplitl [F2] <;> iassumption

omit [FloatOps F] in
/-- Dealt to those who pay: a barrier's token to the device in that relation, a receive's to its sender, a relay's
    to its sender. -/
theorem toks_dealt : (bigSep Finset.univ fun c : Dev nD => (toks c : sProp 𝕄)) ⊢ bigSep Finset.univ fun c : Dev nD => tokens c := by
  unfold toks
  rw [bigSep_sep', bigSep_sep', bigSep_sep', bigSep_sep',
    across_eq (fun o : Fin 8 => o) (fun c o => (dutyTok ER (barCell c) 0 o : sProp 𝕄)),
    across_eq (fun o : Fin 8 => o) (fun c o => (dutyTok ER (dmaCell c (rcvS (peer c o))) 0 (0 : Fin 8) : sProp 𝕄)),
    across_eq rel (fun c d => (dutyTok ER (dmaCell c (rrS d)) 0 (0 : Fin 8) : sProp 𝕄)),
    ← bigSep_sep', ← bigSep_sep', ← bigSep_sep', ← bigSep_sep']
  refine bigSep_mono fun c _ => ?_
  simp only [peer_peer]
  rw [oct_eq, oct_eq, oct_eq, tri_eq, tri_eq]
  exact toks_match c

/-! ## From the launch's element to every device's share -/

/-- What the launch's element deals device `c`. -/
def G (c : Dev nD) : sProp 𝕄 :=
  iprop((bigSep Finset.univ fun k : Option (Fin 22) => roundState ER (Rd m) (kcell (c, k)) 0)
    ∗ (bigSep Finset.univ fun k : Option (Fin 22) => atPos ER (kcell (c, k)) 0 ∅ 0)
    ∗ (bigSep Finset.univ fun k : Option (Fin 22) => reached ER (kcell (c, k)) 0) ∗ toks c)

/-- What becomes of it once every device's cells are open. -/
def G' (c : Dev nD) : sProp 𝕄 := iprop(recs m ∗ tokens c ∗ places c)

theorem fund_cells : BI.own (ER (initOf allCells allToks)) ⊢ (|==> bigSep Finset.univ (G m) : sProp 𝕄) := by
  have hX (Φ : GSem nD τ sig → sProp 𝕄) :
      bigSep allCells Φ = bigSep Finset.univ fun c : Dev nD => bigSep Finset.univ fun k : Option (Fin 22) => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => toks c := by
    unfold allToks; rw [bigSep_map, bigSep_univ_prod, bigSep_univ_prod]
    exact bigSep_mono fun c _ => toks_intro c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat']; · iexact Hat'
  isplitl [Hr'] <;> iassumption

omit [FloatOps F] in
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_eq (c : Dev nD) :
    (bigSep Finset.univ fun k : Option (Fin 22) => semVal (kcell (c, k)) 0 : sProp 𝕄)
      = iprop(unscopedSems0 c ∗ Pipeline.ownSems0 (Ix := Unit) (Name := ℕ) (U := UU) (Lvl := ℕ) (Val := Elt F) (τ := τ) osem c) := by
  rw [opt_eq, unscoped_eq]; rfl

theorem rec1_intro (g : GSem nD τ sig) : iprop((∃ κ : ℕ, cellInv ER (Rd m) κ g) ∗ reached ER g 0) ⊢ (rec1 m g : sProp 𝕄) := by
  unfold rec1
  iintro ⟨⟨%κ, HI⟩, HR⟩
  iexists κ
  isplitl [HI] <;> iassumption

/-- A device's cells open: its semaphores at zero and the cells' states become the cells' invariants. -/
theorem core_open (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => rec1 m (kcell (c, k))) ∗ toks c ∗ places c) := by
  unfold G
  iintro ⟨Hos, Hus, Hst, Hat, Hr, Htok⟩
  ihave Hv := (Entails.of_eq (sems_eq (F := F) c).symm) $$ [Hos Hus]
  · isplitl [Hus] <;> iassumption
  imod (show iprop((bigSep Finset.univ fun k : Option (Fin 22) => semVal (kcell (c, k)) 0)
        ∗ bigSep Finset.univ fun k : Option (Fin 22) => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv Hr]
  · iapply (show iprop((bigSep Finset.univ fun k => iprop(∃ κ : ℕ, cellInv ER (Rd m) κ (kcell (c, k))))
          ∗ bigSep Finset.univ fun k : Option (Fin 22) => reached ER (kcell (c, k)) 0)
        ⊢ (bigSep Finset.univ fun k => rec1 m (kcell (c, k)) : sProp 𝕄) from by
          rw [← bigSep_sep']
          exact bigSep_mono fun k _ => rec1_intro m _)
    isplitl [Hinv] <;> iassumption
  isplitl [Htok]; · iexact Htok
  ihave Hat' := (Entails.of_eq (cells_eq c (fun g => atPos ER g 0 ∅ 0))) $$ Hat
  unfold places aP
  iexact Hat'

omit [FloatOps F] in
theorem with_shared {I : Type} [DecidableEq I] {S : Finset I} {R : sProp 𝕄} [BI.Persistent R] {Φ : I → sProp 𝕄} :
    iprop(R ∗ bigSep S Φ) ⊢ bigSep S fun i => iprop(R ∗ Φ i) := by
  rw [bigSep_sep']
  exact sep_mono_left (BI.bigSep_of_persistent S R)

theorem dealt :
    (bigSep Finset.univ fun c : Dev nD => iprop((bigSep Finset.univ fun k => rec1 m (kcell (c, k))) ∗ toks c ∗ places c) : sProp 𝕄)
      ⊢ bigSep Finset.univ (G' m) := by
  rw [bigSep_sep', bigSep_sep', ← bigSep_univ_prod (fun ck : Dev nD × Option (Fin 22) => rec1 m (kcell ck))]
  iintro ⟨#HR, Htok, Hpl⟩
  ihave Ht := (toks_dealt (F := F)) $$ Htok
  iapply (with_shared (R := recs m) (Φ := fun c : Dev nD => iprop(tokens c ∗ places c)))
  isplitr; · unfold recs; iexact HR
  rw [bigSep_sep']
  isplitl [Ht] <;> iassumption

/-- Every device's cells open at once, their records shared by all, the tokens dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_open m c).trans (bigSep_fupd _ _)).trans (BI.fupd_mono (dealt m))

/-! ## The credit a device starts with -/

/-- What comes to device `c`: each other device's signal, six blocks, three relays. -/
def coming (c : Dev nD) : CellTallies nD τ sig Unit :=
  let v := fun o => tallyAt (dmaCell c (rcvS (peer c o))) () N
  let r := fun d => tallyAt (dmaCell c (rrS d)) () (Nr d)
  let b := tallyAt (barCell c) () 1
  v 3 + v 5 + v 6 + r 0 + r 1 + r 2 + v 1 + v 2 + v 4 + b + b + b + b + b + b + b

theorem coming_sum : (∑ d, O₀ d) = ∑ d, coming d := by
  have hv (o : Fin 8) : ∑ d, vT d o = ∑ c, tallyAt (dmaCell c (rcvS (peer c o))) () N :=
    (Equiv.sum_comp (swap o) (fun d => vT d o)).symm.trans (Finset.sum_congr rfl fun c _ => by unfold vT; rw [swap_apply, peer_peer])
  have hr (d : Fin 3) : ∑ c, rT c d = ∑ c, tallyAt (dmaCell c (rrS d)) () (Nr d) :=
    (Equiv.sum_comp (swap (rel d)) (fun c => rT c d)).symm.trans (Finset.sum_congr rfl fun c _ => by unfold rT; rw [swap_apply, peer_peer])
  have hb (o : Fin 8) : ∑ c, bT c o = ∑ c, tallyAt (barCell c) () 1 :=
    (Equiv.sum_comp (swap o) (fun c => bT c o)).symm.trans (Finset.sum_congr rfl fun c _ => by unfold bT; rw [swap_apply, peer_peer])
  simp only [O₀, Os, Ov, coming, Finset.sum_add_distrib, hv, hr, hb]

theorem tally_own (c : Dev nD) (sm : SemLoc sig) (k : ℕ) (g : GSem nD τ sig) (h : (tallyAt ((c : Thread nD τ), sm) () k : CellTallies nD τ sig Unit) g ≠ 0) :
    g.1 = (c.tc : Thread nD τ) := by
  by_contra hne
  exact h (Finsupp.ext fun u => by rw [tallyAt_apply, if_neg fun hh => hne (by rw [hh.1])]; rfl)

theorem coming_own (c : Dev nD) (g : GSem nD τ sig) (h : coming c g ≠ 0) : g.1 = (c.tc : Thread nD τ) := by
  by_contra hne
  have h0 (sm : SemLoc sig) (k : ℕ) : (tallyAt ((c : Thread nD τ), sm) () k : CellTallies nD τ sig Unit) g = 0 := by
    by_contra hn; exact hne (tally_own c sm k g hn)
  apply h
  simp only [coming, Pi.add_apply, h0, add_zero]

omit [FloatOps F] in
theorem creds (c : Dev nD) : (Pipeline.launchCred O₀ c : sProp 𝕄) ⊢ credits c := by
  rw [Pipeline.launchCred_of_sum O₀ coming coming_sum coming_own c]
  unfold credits vC lC
  have hb : coming c = tallyAt (barCell c) () 7 + ((tallyAt (dmaCell c (rcvS (peer c 1))) () N + (tallyAt (dmaCell c (rcvS (peer c 2))) () N
      + (tallyAt (dmaCell c (rcvS (peer c 3))) () N + (tallyAt (dmaCell c (rcvS (peer c 4))) () N + (tallyAt (dmaCell c (rcvS (peer c 5))) () N
      + tallyAt (dmaCell c (rcvS (peer c 6))) () N))))) + (tallyAt (dmaCell c (rrS 0)) () (Nr 0) + (tallyAt (dmaCell c (rrS 1)) () (Nr 1)
      + tallyAt (dmaCell c (rrS 2)) () (Nr 2)))) := by
    rw [show (tallyAt (barCell c) () 7 : CellTallies nD τ sig Unit) = tallyAt (barCell c) () 1 + tallyAt (barCell c) () 1 + tallyAt (barCell c) () 1
      + tallyAt (barCell c) () 1 + tallyAt (barCell c) () 1 + tallyAt (barCell c) () 1 + tallyAt (barCell c) () 1 from by simp only [tallyAt_add]]
    unfold coming
    ac_rfl
  rw [hb]
  refine (cred_add _ _).1.trans (sep_mono_right ?_)
  refine (cred_add _ _).1.trans (BI.sep_mono ?_ ?_)
  · refine (cred_add _ _).1.trans (sep_mono_right ?_)
    refine (cred_add _ _).1.trans (sep_mono_right ?_)
    refine (cred_add _ _).1.trans (sep_mono_right ?_)
    refine (cred_add _ _).1.trans (sep_mono_right ?_)
    exact (cred_add _ _).1
  · refine (cred_add _ _).1.trans (sep_mono_right ?_)
    exact (cred_add _ _).1

end Cert.KernelProof

end
-- ==== Proof.Launch.lean ====
/-
# The exchange of device blocks: every run, on all eight devices

From what the launch deals each device to what is read off the final state: every device's three arrays, and every
semaphore at zero.
-/
module

public import proofs.«01_k».proof.Proof.Deal
public import Idealize.ShloMosaic.Lib.Tactic
public import Idealize.ShloMosaic.Lib.Pipeline.CollectiveSegs

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G'
  iintro ⟨-, Hlev, Hcr, -, HR, Ht, Hp⟩
  ihave Hc := (creds (F := F) c) $$ Hcr
  imodintro
  isplitl
  · isplitl [HR]; · iexact HR
    isplitl [Hlev]; · iexact Hlev
    isplitl [Ht]; · iexact Ht
    isplitl [Hp] <;> iassumption
  · iempintro

theorem first_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scopedRest0_eq]
  unfold scratch pcS rvS rlS
  iintro ⟨Hs, -, Hr⟩
  isplitl [Hs] <;> iassumption

omit [FloatOps F] in
/-- The kernel's own semaphores at zero, group by group. -/
theorem own_zero (c : Dev nD) :
    (Pipeline.ownSems0 (Ix := Unit) (Name := ℕ) (U := UU) (Lvl := ℕ) (Val := Elt F) (τ := τ) osem c : sProp 𝕄)
      = iprop(oct (fun o => zS c (sndS (peer c o))) ∗ oct (fun o => zS c (rcvS (peer c o))) ∗ tri (fun d => zS c (rsS d)) ∗ tri (fun d => zS c (rrS d))) :=
  own_eq c fun g => semVal g 0

theorem last_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = ended c from rfl, scopedRest0_eq, own_zero, unscoped_eq]
  unfold ended pcS rvS rlS
  iintro ⟨Hr, HB, HZ⟩
  isplitl [HB]; · iexact HB
  isplitl [HZ] <;> iassumption

/-- The pipeline's own waits lie below everything a device owes. -/
theorem waits (c : Dev nD) : (levAts L lv : sProp 𝕄) ⊢ Pipeline.cellsWaits cfgs (dats m ρ) () 0 c :=
  Pipeline.cellsWaits_intro cfgs (dats m ρ) () 0 c fun w s t => by
    have h : Above 0 ((dats m ρ 0 c).owed t) := by
      rcases t with ⟨_ | _, ht⟩
      · exact above_O₀ c
      · exact above_zero 0
    exact mayWait c _ _ (by fin_cases w <;> fin_cases s <;> exact h)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On eight devices, for any float values, from any memory with the semaphores at zero, every fair execution ends, each
    device's arrays hold what the one grid point leaves, and every semaphore is at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays of `x` and of `dy` hold what they held. -/
theorem finalA_x (c : Dev nD) : finalA m ρ c (0 : Fin 3) = m ((c : Thread nD τ).loc main_arg0) :=
  (dats (F := F) m ρ 0 c).arrAt_in (0 : Fin 3) rfl _
theorem finalA_dy (c : Dev nD) : finalA m ρ c (1 : Fin 3) = m ((c : Thread nD τ).loc main_arg1) :=
  (dats (F := F) m ρ 0 c).arrAt_in (1 : Fin 3) rfl _

end Cert.KernelProof

end
-- ==== Proof.Frames.lean ====
/-
# The frames: each program ends without fault, its arguments as they were and every semaphore at zero
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem

/-- Over any float values: every run ends with the arguments as they were and every semaphore at zero. -/
theorem frame_any {F : FTy → Type} [FloatOps F] (m : (ℓ : Loc KernelIdeal.nD KernelIdeal.τ KernelIdeal.sig) → Buf (Elt F) ℓ)
    (ρ : Dev KernelIdeal.nD → PrngReg) :
    θ_run (KernelIdeal.defs (F := F)) (onTc (τ := KernelIdeal.τ) (KernelIdeal.main (F := F))) ⟨m, fun _ => 0, ρ⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0) :=
  (θ_run KernelIdeal.defs _ _).mono
    (fun _ h => ⟨fun c => ⟨(h.1 c (0 : Fin 3)).trans (KernelProof.finalA_x m ρ c), (h.1 c (1 : Fin 3)).trans (KernelProof.finalA_dy m ρ c)⟩, h.2⟩)
    (KernelProof.run_main m ρ)

/-- The two kernel texts are one text under two names. -/
theorem defs₀_eq {F : FTy → Type} [FloatOps F] : Kernel.defs₀ (F := F) = KernelIdeal.defs₀ := by
  unfold Kernel.defs₀ KernelIdeal.defs₀
  refine congrArg Defs.onTc (funext fun l => funext fun x => ?_)
  rcases l with ⟨_ | n, h⟩
  · obtain ⟨t, s⟩ := x
    rfl
  · exact absurd h (Nat.not_lt.2 (Nat.le_add_left _ _))

theorem defs_eq {F : FTy → Type} [FloatOps F] : Kernel.defs (F := F) = KernelIdeal.defs :=
  congrArg (Pipeline.defs KernelIdeal.pcfgs) defs₀_eq

/-- The kernel over float words. Its text is the one the run is proved of. -/
theorem frame_kernel : Cert.quiescent_Kernel := fun m ρ _ => by
  rw [defs_eq (F := Bits)]
  exact frame_any (F := Bits) m ρ

/-- The kernel over the extended reals. -/
theorem frame_kernelIdeal : Cert.quiescent_KernelIdeal := fun m ρ _ => frame_any (F := Ideal) m ρ

/-- The reference over the extended reals: three host operations and no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Products.lean ====
/-
# What one device's buffers hold, entry by entry, over the extended reals

Device `d` holds a block of 512 rows of `x` and of `dy`. For every destination `p` it computes 64 rows of the product of
the two blocks, `prodAt d p`. This module reads the buffers of the exchange at an index: the product buffer, the product
buffer after what came for passing on was added, the receive buffer, and the result. The result of device `c` is the sum
of `prodAt d c` over all eight devices `d`: seven slots of its receive buffer hold something, and what the farthest
device computed for `c` comes in three column groups, each inside another device's slot.
-/
module

public import proofs.«01_k».proof.Proof.Contents
public import Idealize.ShloMosaic.Lib.Pointwise

@[expose] public section

noncomputable section

namespace Cert.KernelProof

open Cert.KernelIdeal Cert.KernelIdeal.Gen
open Idealize.ShloMosaic
open Idealize.ShloMosaic.TcCoe

/-! ## The vector expressions at an index -/

/-- The lower half of the products: row `r` of slot `s` is row `64 s + r` of the product of the two blocks. -/
theorem pay3_apply (x : Vec Ideal S512x512 .bf16) (y : Vec Ideal S512x2048 .bf16) (s : Fin 4) (r : Fin 64) (q : Fin 2048) :
    k0_pay3 x y (ix3 s r q) = ∑ k : Fin 512, x (ix2 k ⟨s.val * 64 + r.val, by omega⟩) * y (ix2 k q) := by
  pointwise [k0_pay3, k0_pay1, k0_pay2]
/-- The upper half. -/
theorem pay4_apply (x : Vec Ideal S512x512 .bf16) (y : Vec Ideal S512x2048 .bf16) (s : Fin 4) (r : Fin 64) (q : Fin 2048) :
    k0_pay4 (k0_pay1 x) (k0_pay2 y) (ix3 s r q) = ∑ k : Fin 512, x (ix2 k ⟨256 + (s.val * 64 + r.val), by omega⟩) * y (ix2 k q) := by
  pointwise [k0_pay4, k0_pay1, k0_pay2]
/-- The zeros put in the farthest device's slot. -/
theorem pay5_apply (y : S1x64x2048.Idx) : k0_pay5 (F := Ideal) y = 0 := by pointwise [k0_pay5]
/-- The device's own slot is copied as it is. -/
theorem pay6_apply (v : Vec Ideal S1x64x2048 .bf16) (y : S1x64x2048.Idx) : k0_pay6 v y = v y := by pointwise [k0_pay6]
/-- The three additions before passing on. -/
theorem pay7_apply (a b : Vec Ideal S1x64x768 .bf16) (y : S1x64x768.Idx) : k0_pay7 a b y = a y + b y := by pointwise [k0_pay7]
theorem pay9_apply (a b : Vec Ideal S1x64x768 .bf16) (y : S1x64x768.Idx) : k0_pay9 (k0_pay8 a b) y = a y + b y := by
  pointwise [k0_pay9, k0_pay8]
theorem pay10_apply (a b : Vec Ideal S1x64x512 .bf16) (y : S1x64x512.Idx) : k0_pay10 a b y = a y + b y := by pointwise [k0_pay10]
/-- The result: the sum over the eight slots. -/
theorem pay11_apply (v : Vec Ideal S8x64x2048 .bf16) (r : Fin 64) (q : Fin 2048) :
    k0_pay11 v (ix2 r q) = ∑ s : Fin 8, v (ix3 s r q) := by
  pointwise [k0_pay11]

/-! ## Reading and writing through a rectangle of a whole buffer -/

section Views
variable {F : FTy → Type} [FloatOps F]

/-- After a write over a rectangle of an eight-slot buffer, an index of the rectangle holds what was written there. -/
theorem pc_write_at (r : Rect S8x64x2048) (f : C8 F) (w : r.shape.Idx → Elt F .bf16) (y : r.shape.Idx) :
    (pcM.access r).write (Elt F) f w Finset.univ (r.emb y) = w y :=
  View.write_emb_of_mem (v := pcM.access r) f w (Finset.mem_univ y)
theorem rv_write_at (r : Rect S8x64x2048) (f : C8 F) (w : r.shape.Idx → Elt F .bf16) (y : r.shape.Idx) :
    (rvM.access r).write (Elt F) f w Finset.univ (r.emb y) = w y :=
  View.write_emb_of_mem (v := rvM.access r) f w (Finset.mem_univ y)
/-- An index outside the rectangle holds what it held. -/
theorem pc_write_off (r : Rect S8x64x2048) (f : C8 F) (w : r.shape.Idx → Elt F .bf16) {i : S8x64x2048.Idx} (h : i ∉ r.set) :
    (pcM.access r).write (Elt F) f w Finset.univ i = f i :=
  View.write_of_not_mem (v := pcM.access r) f w _ (i := i) (by
    show i ∉ (pcM.access r).set
    rw [access_set8]; exact h)

/-- A block read through one squeezed slice and written through another arrives entry for entry. -/
theorem read_landed {κ κ' : Kind} {sp sp' : Space} {s s' : Shape} {e : EltTy} (v : View sig κ sp s e) (w : View sig κ' sp' s e)
    (h : s'.numel = s.numel) (f : v.ty.Contents (Elt F)) (g : w.ty.Contents (Elt F)) :
    v.read (Elt F) ((v.reshape s' h).write (Elt F) f ((w.reshape s' h).read (Elt F) g) Finset.univ) = w.read (Elt F) g := by
  funext y
  obtain ⟨x, rfl⟩ := (Shape.reshapeEquiv h).surjective y
  have hw : (v.reshape s' h).write (Elt F) f ((w.reshape s' h).read (Elt F) g) Finset.univ (v.emb (Shape.reshapeEquiv h x)) = _ :=
    View.write_emb_of_mem (v := v.reshape s' h) f _ (Finset.mem_univ x)
  rw [View.read_apply, hw]
  exact (cast_cast _ _ _).trans (cast_eq _ _)

variable (m : (ℓ : Loc nD τ sig) → Buf (Elt F) ℓ)

/-- What lies in a relay slot is what the neighbour's product buffer holds in the column group. -/
theorem RL0_read (c : Dev nD) : (rlM.access rl0R).read (Elt F) (RL0 m c) = (pcM.access (col0R (far (peer c 1)))).read (Elt F) (PC m (peer c 1)) :=
  read_landed (rlM.access rl0R) (pcM.access (col0R (far (peer c 1)))) _ _ _
theorem RL1_read (c : Dev nD) : (rlM.access rl1R).read (Elt F) (RL1 m c) = (pcM.access (col1R (far (peer c 2)))).read (Elt F) (PC m (peer c 2)) :=
  read_landed (rlM.access rl1R) (pcM.access (col1R (far (peer c 2)))) _ _ _
theorem RL2_read (c : Dev nD) : (rlM.access rl2R).read (Elt F) (RL2 m c) = (pcM.access (col2R (far (peer c 4)))).read (Elt F) (PC m (peer c 4)) :=
  read_landed (rlM.access rl2R) (pcM.access (col2R (far (peer c 4)))) _ _ _

end Views

/-! ## The rectangles' indices -/

theorem slot_at (p : Dev nD) (r : Fin 64) (q : Fin 2048) : (slotR p).emb (ix3 (0 : Fin 1) r q : S1x64x2048.Idx) = (ix3 p r q : S8x64x2048.Idx) := by
  funext (a : Fin 3); refine Fin.ext ?_
  rw [Rect.emb_apply]
  match a with
  | 0 => show p.val + 1 * 0 = p.val; omega
  | 1 => show 0 + 1 * r.val = r.val; omega
  | 2 => show 0 + 1 * q.val = q.val; omega
theorem col0_at (p : Dev nD) (r : Fin 64) (q : Fin 768) :
    (col0R p).emb (ix3 (0 : Fin 1) r q : S1x64x768.Idx) = (ix3 p r (⟨q.val, by omega⟩ : Fin 2048) : S8x64x2048.Idx) := by
  funext (a : Fin 3); refine Fin.ext ?_
  rw [Rect.emb_apply]
  match a with
  | 0 => show p.val + 1 * 0 = p.val; omega
  | 1 => show 0 + 1 * r.val = r.val; omega
  | 2 => show 0 + 1 * q.val = q.val; omega
theorem col1_at (p : Dev nD) (r : Fin 64) (q : Fin 768) :
    (col1R p).emb (ix3 (0 : Fin 1) r q : S1x64x768.Idx) = (ix3 p r (⟨768 + q.val, by omega⟩ : Fin 2048) : S8x64x2048.Idx) := by
  funext (a : Fin 3); refine Fin.ext ?_
  rw [Rect.emb_apply]
  match a with
  | 0 => show p.val + 1 * 0 = p.val; omega
  | 1 => show 0 + 1 * r.val = r.val; omega
  | 2 => show 768 + 1 * q.val = 768 + q.val; omega
theorem col2_at (p : Dev nD) (r : Fin 64) (q : Fin 512) :
    (col2R p).emb (ix3 (0 : Fin 1) r q : S1x64x512.Idx) = (ix3 p r (⟨1536 + q.val, by omega⟩ : Fin 2048) : S8x64x2048.Idx) := by
  funext (a : Fin 3); refine Fin.ext ?_
  rw [Rect.emb_apply]
  match a with
  | 0 => show p.val + 1 * 0 = p.val; omega
  | 1 => show 0 + 1 * r.val = r.val; omega
  | 2 => show 1536 + 1 * q.val = 1536 + q.val; omega
theorem lo_at (s : Fin 4) (r : Fin 64) (q : Fin 2048) :
    loR.emb (ix3 s r q : S4x64x2048.Idx) = (ix3 (⟨s.val, by omega⟩ : Fin 8) r q : S8x64x2048.Idx) := by
  funext (a : Fin 3); refine Fin.ext ?_
  rw [Rect.emb_apply]
  match a with
  | 0 => show 0 + 1 * s.val = s.val; omega
  | 1 => show 0 + 1 * r.val = r.val; omega
  | 2 => show 0 + 1 * q.val = q.val; omega
theorem hi_at (s : Fin 4) (r : Fin 64) (q : Fin 2048) :
    hiR.emb (ix3 s r q : S4x64x2048.Idx) = (ix3 (⟨4 + s.val, by omega⟩ : Fin 8) r q : S8x64x2048.Idx) := by
  funext (a : Fin 3); refine Fin.ext ?_
  rw [Rect.emb_apply]
  match a with
  | 0 => show 4 + 1 * s.val = 4 + s.val; omega
  | 1 => show 0 + 1 * r.val = r.val; omega
  | 2 => show 0 + 1 * q.val = q.val; omega

theorem mem_slot_ix (p : Dev nD) (r : Fin 64) (q : Fin 2048) : (ix3 p r q : S8x64x2048.Idx) ∈ slotSet p := mem_slotSet.2 rfl

theorem setSlot_ix (p c : Dev nD) (r : Fin 64) (q : Fin 2048) : setSlot (ix3 p r q : S8x64x2048.Idx) c = (ix3 c r q : S8x64x2048.Idx) := by
  funext (a : Fin 3)
  match a with
  | 0 => rfl
  | 1 => rfl
  | 2 => rfl

/-! ## The buffers at an index -/

variable (m : (ℓ : Loc nD τ sig) → Buf (Elt Ideal) ℓ)

/-- An entry of a device's buffers, as an extended real: of an eight-slot buffer, of its block of `x`, of its block of
    `dy`, of its result. -/
abbrev ent8 (f : C8 Ideal) (i : S8x64x2048.Idx) : EReal := f i
abbrev entX (f : (cc0_stg0_0 : Ref sig .tc).ty.Contents (Elt Ideal)) (i : S512x512.Idx) : EReal := f i
abbrev entY (f : (cc0_stg1_0 : Ref sig .tc).ty.Contents (Elt Ideal)) (i : S512x2048.Idx) : EReal := f i
abbrev entO (f : (cc0_stg2_0 : Ref sig .tc).ty.Contents (Elt Ideal)) (i : S64x2048.Idx) : EReal := f i

/-- Row `r`, column `q` of what device `d` computes for device `p`: the product of the two blocks of `d`, rows `64 p` on. -/
def prodAt (d p : Dev nD) (r : Fin 64) (q : Fin 2048) : EReal :=
  ∑ k : Fin 512, entX (xs m d) (ix2 k ⟨p.val * 64 + r.val, by have h : p.val < 8 := p.isLt; omega⟩)
    * entY (dys m d) (ix2 k q)

/-- The product buffer. -/
theorem PC_apply (d p : Dev nD) (r : Fin 64) (q : Fin 2048) : ent8 (PC m d) (ix3 p r q) = prodAt m d p r q := by
  have hp : p.val < 8 := p.isLt
  by_cases h : p.val < 4
  · have e : (ix3 p r q : S8x64x2048.Idx) = loR.emb (ix3 (⟨p.val, h⟩ : Fin 4) r q : S4x64x2048.Idx) := (lo_at ⟨p.val, h⟩ r q).symm
    rw [e]
    refine (PC_lo m d (base8 m d) _ ?_).symm.trans ?_
    · rw [← e]; exact mem_loSet.2 h
    · exact (pc_write_at loR _ _ _).trans (pay3_apply _ _ _ _ _)
  · have e : (ix3 p r q : S8x64x2048.Idx) = hiR.emb (ix3 (⟨p.val - 4, by omega⟩ : Fin 4) r q : S4x64x2048.Idx) := by
      rw [hi_at]
      exact congrArg (fun s : Fin 8 => (ix3 s r q : S8x64x2048.Idx)) (Fin.ext (by show p.val = 4 + (p.val - 4); omega))
    rw [e]
    refine (PC_hi m d (base8 m d) _ ?_).symm.trans ?_
    · rw [← e]; exact mem_hiSet.2 h
    · refine (pc_write_at hiR _ _ _).trans ((pay4_apply _ _ _ _ _).trans ?_)
      unfold prodAt
      refine Finset.sum_congr rfl fun k _ => ?_
      congr 3
      exact Fin.ext (by show 256 + ((p.val - 4) * 64 + r.val) = p.val * 64 + r.val; omega)

/-- The slot passed on along the first axis: in its column group the neighbour's part is added. -/
theorem PCa_apply (d : Dev nD) (r : Fin 64) (q : Fin 2048) : ent8 (PCa m d) (ix3 (peer d 6) r q)
    = prodAt m d (peer d 6) r q + if q.val < 768 then prodAt m (peer d 1) (peer d 6) r q else 0 := by
  by_cases h : q.val < 768
  · rw [if_pos h]
    have e : (ix3 (peer d 6) r q : S8x64x2048.Idx) = (col0R (peer d 6)).emb (ix3 (0 : Fin 1) r (⟨q.val, h⟩ : Fin 768) : S1x64x768.Idx) :=
      (col0_at _ r ⟨q.val, h⟩).symm
    rw [e]
    refine (pc_write_at (col0R (peer d 6)) _ _ _).trans ((pay7_apply _ _ _).trans ?_)
    rw [RL0_read, show far (peer d 1) = peer d 6 from far_rel d 0]
    show ent8 (PC m d) ((col0R (peer d 6)).emb _) + ent8 (PC m (peer d 1)) ((col0R (peer d 6)).emb _) = _
    rw [← e, PC_apply, PC_apply]
  · rw [if_neg h, add_zero, ← PC_apply]
    exact pc_write_off _ _ _ (by rw [col0R_set]; intro hm; have := (mem_colSet.1 hm).2.2; exact h (by simpa using this))

/-- The slot passed on along the second axis. -/
theorem PCb_apply (d : Dev nD) (r : Fin 64) (q : Fin 2048) : ent8 (PCb m d) (ix3 (peer d 5) r q)
    = prodAt m d (peer d 5) r q + if 768 ≤ q.val ∧ q.val < 1536 then prodAt m (peer d 2) (peer d 5) r q else 0 := by
  by_cases h : 768 ≤ q.val ∧ q.val < 1536
  · rw [if_pos h]
    have e : (ix3 (peer d 5) r q : S8x64x2048.Idx)
        = (col1R (peer d 5)).emb (ix3 (0 : Fin 1) r (⟨q.val - 768, by omega⟩ : Fin 768) : S1x64x768.Idx) := by
      rw [col1_at]
      exact congrArg (fun q : Fin 2048 => (ix3 (peer d 5) r q : S8x64x2048.Idx)) (Fin.ext (by show q.val = 768 + (q.val - 768); omega))
    rw [e]
    refine (pc_write_at (col1R (peer d 5)) _ _ _).trans ((pay9_apply _ _ _).trans ?_)
    rw [RL1_read, show far (peer d 2) = peer d 5 from far_rel d 1]
    show ent8 (PC m d) ((col1R (peer d 5)).emb _) + ent8 (PC m (peer d 2)) ((col1R (peer d 5)).emb _) = _
    rw [← e, PC_apply, PC_apply]
  · rw [if_neg h, add_zero, ← PC_apply]
    exact pc_write_off _ _ _ (by rw [col1R_set]; intro hm; exact h (by simpa using (mem_colSet.1 hm).2))

/-- The slot passed on along the third axis. -/
theorem PCc_apply (d : Dev nD) (r : Fin 64) (q : Fin 2048) : ent8 (PCc m d) (ix3 (peer d 3) r q)
    = prodAt m d (peer d 3) r q + if 1536 ≤ q.val then prodAt m (peer d 4) (peer d 3) r q else 0 := by
  by_cases h : 1536 ≤ q.val
  · rw [if_pos h]
    have e : (ix3 (peer d 3) r q : S8x64x2048.Idx)
        = (col2R (peer d 3)).emb (ix3 (0 : Fin 1) r (⟨q.val - 1536, by omega⟩ : Fin 512) : S1x64x512.Idx) := by
      rw [col2_at]
      exact congrArg (fun q : Fin 2048 => (ix3 (peer d 3) r q : S8x64x2048.Idx)) (Fin.ext (by show q.val = 1536 + (q.val - 1536); omega))
    rw [e]
    refine (pc_write_at (col2R (peer d 3)) _ _ _).trans ((pay10_apply _ _ _).trans ?_)
    rw [RL2_read, show far (peer d 4) = peer d 3 from far_rel d 2]
    show ent8 (PC m d) ((col2R (peer d 3)).emb _) + ent8 (PC m (peer d 4)) ((col2R (peer d 3)).emb _) = _
    rw [← e, PC_apply, PC_apply]
  · rw [if_neg h, add_zero, ← PC_apply]
    exact pc_write_off _ _ _ (by rw [col2R_set]; intro hm; have := (mem_colSet.1 hm).2.1; exact h (by simpa using this))

/-! ## The receive buffer of device `c`, slot by slot -/

/-- The farthest device's slot: zeros. -/
theorem RC_7 (c : Dev nD) (r : Fin 64) (q : Fin 2048) : ent8 (RC m c) (ix3 (peer c 7) r q) = 0 := by
  refine (RC_far m c (base8 m c) _ (mem_slot_ix _ r q)).symm.trans ?_
  rw [← slot_at]
  exact (rv_write_at (slotR (far c)) _ _ _).trans (pay5_apply _)

/-- The device's own slot: its own product. -/
theorem RC_0 (c : Dev nD) (r : Fin 64) (q : Fin 2048) : ent8 (RC m c) (ix3 (peer c 0) r q) = prodAt m (peer c 0) c r q := by
  rw [peer_zero]
  refine (RC_own m c (base8 m c) (PC m c) (fun _ _ => rfl) _ (mem_slot_ix _ r q)).symm.trans ?_
  rw [← slot_at]
  refine (rv_write_at (slotR c) _ _ _).trans ((pay6_apply _ _).trans ?_)
  show ent8 (PC m c) ((slotR c).emb _) = _
  rw [slot_at, PC_apply]

/-- Any other slot: what that device's product buffer holds for `c` at the end. -/
theorem RC_other (c : Dev nD) (o : Fin 8) (h0 : o ≠ 0) (h7 : o ≠ 7) (r : Fin 64) (q : Fin 2048) :
    ent8 (RC m c) (ix3 (peer c o) r q) = ent8 (PC2 m (peer c o)) (ix3 c r q) := by
  refine (if_neg (slot_ne (peer_ne_far c h7) (mem_slot_ix _ r q))).trans ((if_neg (slot_ne (peer_ne c h0) (mem_slot_ix _ r q))).trans ?_)
  exact congrArg (fun i : S8x64x2048.Idx => ent8 (PC2 m (peer c o)) i) (setSlot_ix _ c r q)

/-- A slot of which the device passes nothing on. -/
theorem RC_plain (c : Dev nD) (o : Fin 8) (h0 : o ≠ 0) (h7 : o ≠ 7) (h6 : o ≠ 6) (h5 : o ≠ 5) (h3 : o ≠ 3) (r : Fin 64) (q : Fin 2048) :
    ent8 (RC m c) (ix3 (peer c o) r q) = prodAt m (peer c o) c r q := by
  exact (RC_other m c o h0 h7 r q).trans ((PC2_of m (peer c o) o h6 h5 h3 _ (by rw [peer_peer]; exact mem_slot_ix _ r q)).trans (PC_apply m _ c r q))

theorem RC_6 (c : Dev nD) (r : Fin 64) (q : Fin 2048) : ent8 (RC m c) (ix3 (peer c 6) r q)
    = prodAt m (peer c 6) c r q + if q.val < 768 then prodAt m (peer c 7) c r q else 0 := by
  have h := PCa_apply m (peer c 6) r q
  rw [peer_peer, show peer (peer c 6) 1 = peer c 7 from far_peer_rem c 0] at h
  exact (RC_other m c 6 (by decide) (by decide) r q).trans ((PC2_6 m (peer c 6) _ (by rw [peer_peer]; exact mem_slot_ix _ r q)).trans h)

theorem RC_5 (c : Dev nD) (r : Fin 64) (q : Fin 2048) : ent8 (RC m c) (ix3 (peer c 5) r q)
    = prodAt m (peer c 5) c r q + if 768 ≤ q.val ∧ q.val < 1536 then prodAt m (peer c 7) c r q else 0 := by
  have h := PCb_apply m (peer c 5) r q
  rw [peer_peer, show peer (peer c 5) 2 = peer c 7 from far_peer_rem c 1] at h
  exact (RC_other m c 5 (by decide) (by decide) r q).trans ((PC2_5 m (peer c 5) _ (by rw [peer_peer]; exact mem_slot_ix _ r q)).trans h)

theorem RC_3 (c : Dev nD) (r : Fin 64) (q : Fin 2048) : ent8 (RC m c) (ix3 (peer c 3) r q)
    = prodAt m (peer c 3) c r q + if 1536 ≤ q.val then prodAt m (peer c 7) c r q else 0 := by
  have h := PCc_apply m (peer c 3) r q
  rw [peer_peer, show peer (peer c 3) 4 = peer c 7 from far_peer_rem c 2] at h
  exact (RC_other m c 3 (by decide) (by decide) r q).trans ((PC2_3 m (peer c 3) _ (by rw [peer_peer]; exact mem_slot_ix _ r q)).trans h)

/-! ## The result -/

/-- The three column groups together are all columns. -/
theorem groups (q : Fin 2048) (a : EReal) :
    (if q.val < 768 then a else 0) + (if 768 ≤ q.val ∧ q.val < 1536 then a else 0) + (if 1536 ≤ q.val then a else 0) = a := by
  rcases Nat.lt_or_ge q.val 768 with h | h
  · rw [if_pos h, if_neg (by omega), if_neg (by omega), add_zero, add_zero]
  · rcases Nat.lt_or_ge q.val 1536 with h' | h'
    · rw [if_neg (by omega), if_pos ⟨h, h'⟩, if_neg (by omega), zero_add, add_zero]
    · rw [if_neg (by omega), if_neg (by omega), if_pos h', zero_add, zero_add]

/-- The result of device `c` is the sum of what all eight devices computed for it. -/
theorem outAt_apply (c : Dev nD) (r : Fin 64) (q : Fin 2048) :
    entO (outAt m c) (ix2 r q) = ∑ d : Fin 8, prodAt m d c r q := by
  unfold outAt
  refine (pay11_apply _ r q).trans ?_
  rw [← Equiv.sum_comp (peers c) (fun s : Fin 8 => ent8 (RC m c) (ix3 s r q)),
    ← Equiv.sum_comp (peers c) (fun d : Fin 8 => prodAt m d c r q), Fin.sum_univ_eight, Fin.sum_univ_eight]
  simp only [peers_apply]
  rw [RC_0, RC_7, RC_6, RC_5, RC_3, RC_plain m c 1 (by decide) (by decide) (by decide) (by decide) (by decide),
    RC_plain m c 2 (by decide) (by decide) (by decide) (by decide) (by decide),
    RC_plain m c 4 (by decide) (by decide) (by decide) (by decide) (by decide)]
  conv_rhs => rw [← groups q (prodAt m (peer c 7) c r q)]
  abel

end Cert.KernelProof

end
-- ==== Proof.Result.lean ====
/-
# What the arrays hold after the run

The call has one grid point and three windows, each a whole array. So the block of `x` and of `dy` that the body finds is
the device's argument, and the device's result array ends holding what the body left in its output buffer.
-/
module

public import proofs.«01_k».proof.Proof.Launch
public import proofs.«01_k».proof.Proof.Products

@[expose] public section

noncomputable section

namespace Cert.KernelProof

open Cert.KernelIdeal Cert.KernelIdeal.Gen
open Idealize.ShloMosaic
open Idealize.ShloMosaic.TcCoe
open Idealize.ShloMosaic.Pipeline (Dat Cfg Window)

/-- The rectangle of a window that is a whole array, at the one grid point, leaves an index where it is. -/
theorem whole_x (y : S512x512.Idx) : (win0_0.rect (0 : Fin 1)).emb y = y := by
  funext (a : Fin 2); refine Fin.ext ?_
  rw [Rect.emb_apply]
  match a with
  | 0 => show 0 + 1 * (y 0).val = (y 0).val; omega
  | 1 => show 0 + 1 * (y 1).val = (y 1).val; omega
theorem whole_dy (y : S512x2048.Idx) : (win0_1.rect (0 : Fin 1)).emb y = y := by
  funext (a : Fin 2); refine Fin.ext ?_
  rw [Rect.emb_apply]
  match a with
  | 0 => show 0 + 1 * (y 0).val = (y 0).val; omega
  | 1 => show 0 + 1 * (y 1).val = (y 1).val; omega
theorem whole_out (y : S64x2048.Idx) : (win0_2.rect (0 : Fin 1)).emb y = y := by
  funext (a : Fin 2); refine Fin.ext ?_
  rw [Rect.emb_apply]
  match a with
  | 0 => show 0 + 1 * (y 0).val = (y 0).val; omega
  | 1 => show 0 + 1 * (y 1).val = (y 1).val; omega

section
variable (m : (ℓ : Loc nD τ sig) → Buf (Elt Ideal) ℓ)

/-- The body finds the device's arguments. -/
theorem xs_eq (c : Dev nD) (y : S512x512.Idx) : entX (xs m c) y = entX (m ((c : Thread nD τ).loc main_arg0)) y :=
  congrArg (entX (m ((c : Thread nD τ).loc main_arg0))) (whole_x y)
theorem dys_eq (c : Dev nD) (y : S512x2048.Idx) : entY (dys m c) y = entY (m ((c : Thread nD τ).loc main_arg1)) y :=
  congrArg (entY (m ((c : Thread nD τ).loc main_arg1))) (whole_dy y)
end

section
variable {F : FTy → Type} [FloatOps F] (m : (ℓ : Loc nD τ sig) → Buf (Elt F) ℓ) (ρ : Dev nD → PrngReg)

/-- The result array ends holding what the body left. -/
theorem finalA_out (c : Dev nD) : finalA m ρ c (2 : Fin 3) = outAt m c := by
  have h : (win0_2.blk (0 : Fin 1)).view.read (Elt F) (finalA m ρ c (2 : Fin 3)) = outAt m c := by
    have e : finalA m ρ c (2 : Fin 3) = _ := ((dats m ρ 0 c).arrAt_succ (2 : Fin 3) (0 : Fin 1)).trans (if_pos (flush0_2 _))
    exact (congrArg ((win0_2.blk (0 : Fin 1)).view.read (Elt F)) e).trans (View.read_write_univ _ _)
  funext y
  refine Eq.trans ?_ (congrFun h y)
  exact (congrArg (finalA m ρ c (2 : Fin 3)) (whole_out y)).symm
end

end Cert.KernelProof

end
-- ==== Proof.Equation.lean ====
/-
# The kernel computes the reference

The reference multiplies the whole arrays: entry `(i, q)` of its result is the sum over all 4096 rows `k` of
`x[k, i] · dy[k, q]`. Device `d` holds rows `512 d` to `512 d + 511`, so what it computes for device `c` is the part of
that sum over its own rows, for the entries with `i` from `64 c` to `64 c + 63`. The eight parts add up to the whole sum,
and device `c`'s result is block `c` of the reference's.
-/
module

public import proofs.«01_k».proof.Defs
public import proofs.«01_k».proof.Proof.Result
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem
open Cert.KernelProof

/-- The reference's result as an expression of its two arguments. -/
abbrev refOf (X : FVec Ideal ReferenceIdeal.S4096x512 .bf16) (Y : FVec Ideal ReferenceIdeal.S4096x2048 .bf16) : FVec Ideal ReferenceIdeal.S512x2048 .f32 :=
  extf .f32 (truncf .bf16 (Host.dotGeneral ReferenceIdeal.dot_S4096x512_S4096x2048_S512x2048_0_0_1_1_n_n none X Y)
    ReferenceIdeal.Facts₀.bitsLt_bf16_f32) ReferenceIdeal.Facts₀.bitsLt_bf16_f32

/-- The reference at an entry: the sum over the 4096 rows. -/
theorem ref_apply (X : FVec Ideal ReferenceIdeal.S4096x512 .bf16) (Y : FVec Ideal ReferenceIdeal.S4096x2048 .bf16) (i : Fin 512) (q : Fin 2048) :
    refOf X Y (ix2 i q) = ∑ k : Fin 4096, X (ix2 k i) * Y (ix2 k q) := by
  pointwise [refOf]

/-- What the devices compute for device `c`, of their blocks of the whole arrays, adds up to the reference's rows `64 c` on. -/
theorem parts_sum (m : (ℓ : Loc KernelIdeal.nD KernelIdeal.τ KernelIdeal.sig) → Buf (Elt Ideal) ℓ)
    (X : FVec Ideal ReferenceIdeal.S4096x512 .bf16) (Y : FVec Ideal ReferenceIdeal.S4096x2048 .bf16)
    (hX : ∀ c : Dev KernelIdeal.nD, m ((c : Thread KernelIdeal.nD KernelIdeal.τ).loc KernelIdeal.main_arg0) = Layout.block ⟨2, ![512, 512]⟩ ⟨2, ![4096, 512]⟩ 0 8 c X)
    (hY : ∀ c : Dev KernelIdeal.nD, m ((c : Thread KernelIdeal.nD KernelIdeal.τ).loc KernelIdeal.main_arg1) = Layout.block ⟨2, ![512, 2048]⟩ ⟨2, ![4096, 2048]⟩ 0 8 c Y)
    (c : Fin 8) (r : Fin 64) (q : Fin 2048) :
    ∑ d : Fin 8, prodAt m d c r q = refOf X Y (ix2 (⟨c.val * 64 + r.val, by omega⟩ : Fin 512) q) := by
  rw [ref_apply, Fin.sum_univ_tiles 8 512 rfl]
  refine Finset.sum_congr rfl fun d _ => ?_
  unfold prodAt
  refine Finset.sum_congr rfl fun k _ => ?_
  rw [xs_eq, dys_eq, hX d, hY d]
  congr 1
  · refine congrArg X ?_
    funext (a : Fin 2)
    match a with
    | 0 => rfl
    | 1 => rfl
  · refine congrArg Y ?_
    funext (a : Fin 2)
    match a with
    | 0 => rfl
    | 1 => rfl

/-- The kernel and the reference compute the same function. -/
theorem algebraic : Cert.algebraic_KernelIdeal_ReferenceIdeal := by
  intro m ρ m' ρ' _ hargs
  refine ⟨refOf (m' (((0 : Dev ReferenceIdeal.nD).tc : Thread ReferenceIdeal.nD ReferenceIdeal.τ).loc ReferenceIdeal.main_arg0))
      (m' (((0 : Dev ReferenceIdeal.nD).tc : Thread ReferenceIdeal.nD ReferenceIdeal.τ).loc ReferenceIdeal.main_arg1)), ?_, ?_⟩
  · refine (θ_run KernelIdeal.defs _ _).mono (fun r h c => ⟨(h.1 c (2 : Fin 3)).trans ((finalA_out m ρ c).trans ?_),
      (h.1 c (0 : Fin 3)).trans (finalA_x m ρ c), (h.1 c (1 : Fin 3)).trans (finalA_dy m ρ c)⟩) (run_main m ρ)
    funext y
    refine (congrArg (entO (outAt m c)) (eq_ix2 y)).trans ((outAt_apply m c (y 0) (y 1)).trans
      ((parts_sum m _ _ (fun c => (hargs c).1) (fun c => (hargs c).2) c (y 0) (y 1)).trans ?_))
    refine congrArg (refOf _ _) ?_
    funext (a : Fin 2)
    match a with
    | 0 => rfl
    | 1 => rfl
  · exact (θ_run ReferenceIdeal.defs _ _).mono (fun r h => h 0) (ReferenceIdeal.Value.run (F := Ideal) m' ρ')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
